-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.truncf_extf.Statement Cert.KernelIdeal.S96x256 .f32 .bf16
  ∧ IdealRules.bf16_pack.Statement Cert.KernelIdeal.S16x8x256
  ∧ IdealRules.bf16_pair.PackStatement Cert.KernelIdeal.S16x8x256
  ∧ IdealRules.bf16_pair.Statement Cert.KernelIdeal.S16x16x256 Cert.KernelIdeal.S16x8x256
  ∧ IdealRules.bf16_pair.Statement Cert.KernelIdeal.S256x256 Cert.KernelIdeal.S128x256
  ∧ IdealRules.truncf_extf.Statement Cert.KernelIdeal.S64x256 .f32 .bf16
  ∧ IdealRules.bf16_pack.Statement Cert.KernelIdeal.S12x8x256
  ∧ IdealRules.bf16_pair.PackStatement Cert.KernelIdeal.S12x8x256
  ∧ IdealRules.bf16_pair.Statement Cert.KernelIdeal.S12x16x256 Cert.KernelIdeal.S12x8x256
  ∧ IdealRules.bf16_pair.Statement Cert.KernelIdeal.S192x256 Cert.KernelIdeal.S96x256

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x4096x16x160 : Shape := ⟨4, ![3, 4096, 16, 160]⟩
abbrev S3x4096x16 : Shape := ⟨3, ![3, 4096, 16]⟩
abbrev S3x4096x8x160 : Shape := ⟨4, ![3, 4096, 8, 160]⟩
abbrev S3x4096x8 : Shape := ⟨3, ![3, 4096, 8]⟩
abbrev S16x12 : Shape := ⟨2, ![16, 12]⟩
abbrev S12x8 : Shape := ⟨2, ![12, 8]⟩
abbrev S_ : Shape := ⟨0, ![]⟩

class Facts : Prop where
  bcast_S_S3x4096x16x160 : S_.BroadcastsInDim S3x4096x16x160 (![] : Fin 0 → Fin S3x4096x16x160.rank)
  bcast_S_S3x4096x16 : S_.BroadcastsInDim S3x4096x16 (![] : Fin 0 → Fin S3x4096x16.rank)
  bcast_S_S16x12 : S_.BroadcastsInDim S16x12 (![] : Fin 0 → Fin S16x12.rank)
  bcast_S_S12x8 : S_.BroadcastsInDim S12x8 (![] : Fin 0 → Fin S12x8.rank)

variable [Facts]

def fn {F : FTy → Type} [FloatOps F] (main_arg0 : FVec F S3x4096x16x160 .f32) (main_arg1 : FVec F S3x4096x16 .f32) (main_arg2 : FVec F S3x4096x16x160 .f32) (main_arg3 : FVec F S3x4096x16 .f32) (main_arg4 : FVec F S3x4096x8x160 .f32) (main_arg5 : FVec F S3x4096x8 .f32) (main_arg6 : FVec F S16x12 .f32) (main_arg7 : FVec F S12x8 .f32) : IVec S3x4096x16x160 1 × IVec S3x4096x16 1 × IVec S3x4096x16x160 1 × IVec S3x4096x16 1 × IVec S16x12 1 × IVec S12x8 1 :=
  let main_v0 : FVec F S3x4096x16x160 .f32 := Host.absf main_arg0
  let main_cst : FVec F S_ .f32 := constant S_ .f32 0x7F800000#32
  let main_v1 : FVec F S3x4096x16x160 .f32 := broadcastInDim S3x4096x16x160 ![] bcast_S_S3x4096x16x160 main_cst
  let main_v2 : IVec S3x4096x16x160 1 := cmpf .olt main_v0 main_v1
  let main_v3 : FVec F S3x4096x16 .f32 := Host.absf main_arg1
  let main_cst_0 : FVec F S_ .f32 := constant S_ .f32 0x7F800000#32
  let main_v4 : FVec F S3x4096x16 .f32 := broadcastInDim S3x4096x16 ![] bcast_S_S3x4096x16 main_cst_0
  let main_v5 : IVec S3x4096x16 1 := cmpf .olt main_v3 main_v4
  let main_v6 : FVec F S3x4096x16x160 .f32 := Host.absf main_arg2
  let main_cst_1 : FVec F S_ .f32 := constant S_ .f32 0x7F800000#32
  let main_v7 : FVec F S3x4096x16x160 .f32 := broadcastInDim S3x4096x16x160 ![] bcast_S_S3x4096x16x160 main_cst_1
  let main_v8 : IVec S3x4096x16x160 1 := cmpf .olt main_v6 main_v7
  let main_v9 : FVec F S3x4096x16 .f32 := Host.absf main_arg3
  let main_cst_2 : FVec F S_ .f32 := constant S_ .f32 0x7F800000#32
  let main_v10 : FVec F S3x4096x16 .f32 := broadcastInDim S3x4096x16 ![] bcast_S_S3x4096x16 main_cst_2
  let main_v11 : IVec S3x4096x16 1 := cmpf .olt main_v9 main_v10
  let main_v12 : FVec F S16x12 .f32 := Host.absf main_arg6
  let main_cst_3 : FVec F S_ .f32 := constant S_ .f32 0x7F800000#32
  let main_v13 : FVec F S16x12 .f32 := broadcastInDim S16x12 ![] bcast_S_S16x12 main_cst_3
  let main_v14 : IVec S16x12 1 := cmpf .olt main_v12 main_v13
  let main_v15 : FVec F S12x8 .f32 := Host.absf main_arg7
  let main_cst_4 : FVec F S_ .f32 := constant S_ .f32 0x7F800000#32
  let main_v16 : FVec F S12x8 .f32 := broadcastInDim S12x8 ![] bcast_S_S12x8 main_cst_4
  let main_v17 : IVec S12x8 1 := cmpf .olt main_v15 main_v16
  (main_v2, main_v5, main_v8, main_v11, main_v14, main_v17)
-- ==== Kernel.lean ====
abbrev S3x4096x16x160 : Shape := ⟨4, ![3, 4096, 16, 160]⟩
abbrev S3x4096x16 : Shape := ⟨3, ![3, 4096, 16]⟩
abbrev S3x4096x8x160 : Shape := ⟨4, ![3, 4096, 8, 160]⟩
abbrev S3x4096x8 : Shape := ⟨3, ![3, 4096, 8]⟩
abbrev S16x12 : Shape := ⟨2, ![16, 12]⟩
abbrev S12x8 : Shape := ⟨2, ![12, 8]⟩
abbrev S3x16x4096x160 : Shape := ⟨4, ![3, 16, 4096, 160]⟩
abbrev S3x16x160x4096 : Shape := ⟨4, ![3, 16, 160, 4096]⟩
abbrev S3x8x4096x160 : Shape := ⟨4, ![3, 8, 4096, 160]⟩
abbrev S3x16x4096 : Shape := ⟨3, ![3, 16, 4096]⟩
abbrev S3x8x4096 : Shape := ⟨3, ![3, 8, 4096]⟩
abbrev S3x512x8x16 : Shape := ⟨4, ![3, 512, 8, 16]⟩
abbrev S3x512x16x8 : Shape := ⟨4, ![3, 512, 16, 8]⟩
abbrev S3x512x1x128 : Shape := ⟨4, ![3, 512, 1, 128]⟩
abbrev S3x512x1x128x2 : Shape := ⟨5, ![3, 512, 1, 128, 2]⟩
abbrev S3x512x1x256 : Shape := ⟨4, ![3, 512, 1, 256]⟩
abbrev S_ : Shape := ⟨0, ![]⟩
abbrev S8x8 : Shape := ⟨2, ![8, 8]⟩
abbrev S12x16 : Shape := ⟨2, ![12, 16]⟩
abbrev S12x1x16x1x1 : Shape := ⟨5, ![12, 1, 16, 1, 1]⟩
abbrev S1x8x1x8x1 : Shape := ⟨5, ![1, 8, 1, 8, 1]⟩
abbrev S12x8x16x8x1 : Shape := ⟨5, ![12, 8, 16, 8, 1]⟩
abbrev S12x8x16x8x2 : Shape := ⟨5, ![12, 8, 16, 8, 2]⟩
abbrev S96x256 : Shape := ⟨2, ![96, 256]⟩
abbrev S8x12 : Shape := ⟨2, ![8, 12]⟩
abbrev S8x1x12x1x1 : Shape := ⟨5, ![8, 1, 12, 1, 1]⟩
abbrev S8x8x12x8x1 : Shape := ⟨5, ![8, 8, 12, 8, 1]⟩
abbrev S8x8x12x8x2 : Shape := ⟨5, ![8, 8, 12, 8, 2]⟩
abbrev S64x192 : Shape := ⟨2, ![64, 192]⟩
abbrev S64x256 : Shape := ⟨2, ![64, 256]⟩
abbrev S3x4096x1280 : Shape := ⟨3, ![3, 4096, 1280]⟩
abbrev S1x16x128x160 : Shape := ⟨4, ![1, 16, 128, 160]⟩
abbrev S1x16x160x4096 : Shape := ⟨4, ![1, 16, 160, 4096]⟩
abbrev S1x8x4096x160 : Shape := ⟨4, ![1, 8, 4096, 160]⟩
abbrev S1x16x1x256 : Shape := ⟨4, ![1, 16, 1, 256]⟩
abbrev S1x16x4096 : Shape := ⟨3, ![1, 16, 4096]⟩
abbrev S1x8x4096 : Shape := ⟨3, ![1, 8, 4096]⟩
abbrev S1x128x1280 : Shape := ⟨3, ![1, 128, 1280]⟩
abbrev S16x96x4096 : Shape := ⟨3, ![16, 96, 4096]⟩
abbrev S16x128x256 : Shape := ⟨3, ![16, 128, 256]⟩
abbrev S8x128x256 : Shape := ⟨3, ![8, 128, 256]⟩
abbrev S8x128x160 : Shape := ⟨3, ![8, 128, 160]⟩
abbrev S16x288x256 : Shape := ⟨3, ![16, 288, 256]⟩
abbrev S16x192x256 : Shape := ⟨3, ![16, 192, 256]⟩
abbrev S1x1x1x256 : Shape := ⟨4, ![1, 1, 1, 256]⟩
abbrev S1x256 : Shape := ⟨2, ![1, 256]⟩
abbrev S1x96x256 : Shape := ⟨3, ![1, 96, 256]⟩
abbrev S1x1x128x160 : Shape := ⟨4, ![1, 1, 128, 160]⟩
abbrev S128x160 : Shape := ⟨2, ![128, 160]⟩
abbrev S1x1x160x256 : Shape := ⟨4, ![1, 1, 160, 256]⟩
abbrev S160x256 : Shape := ⟨2, ![160, 256]⟩
abbrev S128x256 : Shape := ⟨2, ![128, 256]⟩
abbrev S1x1x256 : Shape := ⟨3, ![1, 1, 256]⟩
abbrev S1x128x256 : Shape := ⟨3, ![1, 128, 256]⟩
abbrev S16x8x256 : Shape := ⟨3, ![16, 8, 256]⟩
abbrev S256x256 : Shape := ⟨2, ![256, 256]⟩
abbrev S1x192x256 : Shape := ⟨3, ![1, 192, 256]⟩
abbrev S192x256 : Shape := ⟨2, ![192, 256]⟩
abbrev S96x128 : Shape := ⟨2, ![96, 128]⟩
abbrev S96 : Shape := ⟨1, ![96]⟩
abbrev S96x1 : Shape := ⟨2, ![96, 1]⟩
abbrev S8x256 : Shape := ⟨2, ![8, 256]⟩
abbrev S1x64x256 : Shape := ⟨3, ![1, 64, 256]⟩
abbrev S12x8x256 : Shape := ⟨3, ![12, 8, 256]⟩
abbrev S8x8x256 : Shape := ⟨3, ![8, 8, 256]⟩
abbrev S8x16x256 : Shape := ⟨3, ![8, 16, 256]⟩
abbrev S1x1x256x160 : Shape := ⟨4, ![1, 1, 256, 160]⟩
abbrev S256x160 : Shape := ⟨2, ![256, 160]⟩
abbrev S1x128x160 : Shape := ⟨3, ![1, 128, 160]⟩

abbrev nBuf : Space → Nat
  | .hbm => 61
  | .vmem => 20
  | .smem => 0
  | _ => 0

abbrev bufTy : (tb : Table) → Fin (tcTables nBuf tb) → BufTy
  | .hbm, ⟨0, _⟩ => ⟨S3x4096x16x160, .f32⟩
  | .hbm, ⟨1, _⟩ => ⟨S3x4096x16, .f32⟩
  | .hbm, ⟨2, _⟩ => ⟨S3x4096x16x160, .f32⟩
  | .hbm, ⟨3, _⟩ => ⟨S3x4096x16, .f32⟩
  | .hbm, ⟨4, _⟩ => ⟨S3x4096x8x160, .f32⟩
  | .hbm, ⟨5, _⟩ => ⟨S3x4096x8, .f32⟩
  | .hbm, ⟨6, _⟩ => ⟨S16x12, .f32⟩
  | .hbm, ⟨7, _⟩ => ⟨S12x8, .f32⟩
  | .hbm, ⟨8, _⟩ => ⟨S3x4096x16x160, .fp8e4m3⟩
  | .hbm, ⟨9, _⟩ => ⟨S3x4096x16x160, .fp8e4m3⟩
  | .hbm, ⟨10, _⟩ => ⟨S3x4096x8x160, .fp8e4m3⟩
  | .hbm, ⟨11, _⟩ => ⟨S3x16x4096x160, .fp8e4m3⟩
  | .hbm, ⟨12, _⟩ => ⟨S3x16x160x4096, .fp8e4m3⟩
  | .hbm, ⟨13, _⟩ => ⟨S3x8x4096x160, .fp8e4m3⟩
  | .hbm, ⟨14, _⟩ => ⟨S3x16x4096, .f32⟩
  | .hbm, ⟨15, _⟩ => ⟨S3x8x4096, .f32⟩
  | .hbm, ⟨16, _⟩ => ⟨S3x512x8x16, .f32⟩
  | .hbm, ⟨17, _⟩ => ⟨S3x512x16x8, .f32⟩
  | .hbm, ⟨18, _⟩ => ⟨S3x512x1x128, .f32⟩
  | .hbm, ⟨19, _⟩ => ⟨S3x512x1x128x2, .f32⟩
  | .hbm, ⟨20, _⟩ => ⟨S3x512x1x256, .f32⟩
  | .hbm, ⟨21, _⟩ => ⟨S_, .f32⟩
  | .hbm, ⟨22, _⟩ => ⟨S16x12, .f32⟩
  | .hbm, ⟨23, _⟩ => ⟨S16x12, .f32⟩
  | .hbm, ⟨24, _⟩ => ⟨S8x8, .i32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S12x16, .f32⟩
  | .hbm, ⟨32, _⟩ => ⟨S12x1x16x1x1, .f32⟩
  | .hbm, ⟨33, _⟩ => ⟨S1x8x1x8x1, .f32⟩
  | .hbm, ⟨34, _⟩ => ⟨S12x8x16x8x1, .f32⟩
  | .hbm, ⟨35, _⟩ => ⟨S12x8x16x8x1, .f32⟩
  | .hbm, ⟨36, _⟩ => ⟨S12x8x16x8x1, .f32⟩
  | .hbm, ⟨37, _⟩ => ⟨S12x8x16x8x2, .f32⟩
  | .hbm, ⟨38, _⟩ => ⟨S96x256, .f32⟩
  | .hbm, ⟨39, _⟩ => ⟨S_, .i32⟩
  | .hbm, ⟨40, _⟩ => ⟨S_, .f32⟩
  | .hbm, ⟨41, _⟩ => ⟨S96x256, .f32⟩
  | .hbm, ⟨42, _⟩ => ⟨S8x8, .i32⟩
  | .hbm, ⟨43, _⟩ => ⟨S8x8, .i32⟩
  | .hbm, ⟨44, _⟩ => ⟨S_, .i32⟩
  | .hbm, ⟨45, _⟩ => ⟨S8x8, .i32⟩
  | .hbm, ⟨46, _⟩ => ⟨S8x8, .i32⟩
  | .hbm, ⟨47, _⟩ => ⟨S8x8, .i1⟩
  | .hbm, ⟨48, _⟩ => ⟨S8x8, .f32⟩
  | .hbm, ⟨49, _⟩ => ⟨S8x12, .f32⟩
  | .hbm, ⟨50, _⟩ => ⟨S8x1x12x1x1, .f32⟩
  | .hbm, ⟨51, _⟩ => ⟨S1x8x1x8x1, .f32⟩
  | .hbm, ⟨52, _⟩ => ⟨S8x8x12x8x1, .f32⟩
  | .hbm, ⟨53, _⟩ => ⟨S8x8x12x8x1, .f32⟩
  | .hbm, ⟨54, _⟩ => ⟨S8x8x12x8x1, .f32⟩
  | .hbm, ⟨55, _⟩ => ⟨S8x8x12x8x2, .f32⟩
  | .hbm, ⟨56, _⟩ => ⟨S64x192, .f32⟩
  | .hbm, ⟨57, _⟩ => ⟨S_, .i32⟩
  | .hbm, ⟨58, _⟩ => ⟨S_, .f32⟩
  | .hbm, ⟨59, _⟩ => ⟨S64x256, .f32⟩
  | .hbm, ⟨60, _⟩ => ⟨S3x4096x1280, .bf16⟩
  | .local _ .vmem, ⟨0, _⟩ => ⟨S1x16x128x160, .fp8e4m3⟩
  | .local _ .vmem, ⟨1, _⟩ => ⟨S1x16x128x160, .fp8e4m3⟩
  | .local _ .vmem, ⟨2, _⟩ => ⟨S1x16x160x4096, .fp8e4m3⟩
  | .local _ .vmem, ⟨3, _⟩ => ⟨S1x8x4096x160, .fp8e4m3⟩
  | .local _ .vmem, ⟨4, _⟩ => ⟨S1x16x1x256, .f32⟩
  | .local _ .vmem, ⟨5, _⟩ => ⟨S1x16x1x256, .f32⟩
  | .local _ .vmem, ⟨6, _⟩ => ⟨S1x16x4096, .f32⟩
  | .local _ .vmem, ⟨7, _⟩ => ⟨S1x16x4096, .f32⟩
  | .local _ .vmem, ⟨8, _⟩ => ⟨S1x8x4096, .f32⟩
  | .local _ .vmem, ⟨9, _⟩ => ⟨S1x8x4096, .f32⟩
  | .local _ .vmem, ⟨10, _⟩ => ⟨S96x256, .f32⟩
  | .local _ .vmem, ⟨11, _⟩ => ⟨S64x256, .f32⟩
  | .local _ .vmem, ⟨12, _⟩ => ⟨S1x128x1280, .bf16⟩
  | .local _ .vmem, ⟨13, _⟩ => ⟨S1x128x1280, .bf16⟩
  | .local _ .vmem, ⟨14, _⟩ => ⟨S16x96x4096, .f32⟩
  | .local _ .vmem, ⟨15, _⟩ => ⟨S16x128x256, .f32⟩
  | .local _ .vmem, ⟨16, _⟩ => ⟨S8x128x256, .bf16⟩
  | .local _ .vmem, ⟨17, _⟩ => ⟨S8x128x160, .f32⟩
  | .local _ .vmem, ⟨18, _⟩ => ⟨S16x288x256, .bf16⟩
  | .local _ .vmem, ⟨19, _⟩ => ⟨S16x192x256, .bf16⟩
  | _, _ => ⟨S3x4096x16x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_0 : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_2 : Ref sig .tc := ⟨.hbm, 57, rfl⟩
abbrev main_call1_v0 : Ref sig .tc := ⟨.hbm, 58, rfl⟩
abbrev main_v44 : Ref sig .tc := ⟨.hbm, 59, rfl⟩
abbrev main_v45 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [BitOps F]

abbrev grid0 : Pipeline.Grid := ⟨2, ![3, 32], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 4 → Nat :=
  let c0_53 : Index := 0#32
  let c0_i32_50 : BitVec 32 := 0#32
  let c0_i32 : BitVec 32 := 0#32
  let c1_i32 : BitVec 32 := 1#32
  let arg17 : BitVec 32 := Scf.iv c0_i32 c1_i32 k0_t1
  let c1_i32_49 : BitVec 32 := 1#32
  let v56 : BitVec 32 := Scalar.muli arg17 c1_i32_49
  let v57 : BitVec 32 := Scalar.addi c0_i32_50 v56
  let v60 : Index := Scalar.indexCast v57
  let c0_54 : Index := 0#32
  let c0_55 : Index := 0#32
  ![0, v60.toNat, 0, 0]
def k0_off2 (k0_t1 : Fin k0_t1_loop.trips) : Fin 3 → Nat :=
  let c0_i32_50 : BitVec 32 := 0#32
  let c0_i32 : BitVec 32 := 0#32
  let c1_i32 : BitVec 32 := 1#32
  let arg17 : BitVec 32 := Scf.iv c0_i32 c1_i32 k0_t1
  let c1_i32_49 : BitVec 32 := 1#32
  let v56 : BitVec 32 := Scalar.muli arg17 c1_i32_49
  let v57 : BitVec 32 := Scalar.addi c0_i32_50 v56
  let v95 : Index := Scalar.indexCast v57
  let c0_62 : Index := 0#32
  let c0_63 : Index := 0#32
  ![v95.toNat, 0, 0]
def k0_off3 (k0_t1 : Fin k0_t1_loop.trips) : Fin 3 → Nat :=
  let c0_i32_50 : BitVec 32 := 0#32
  let c0_i32 : BitVec 32 := 0#32
  let c1_i32 : BitVec 32 := 1#32
  let arg17 : BitVec 32 := Scf.iv c0_i32 c1_i32 k0_t1
  let c1_i32_49 : BitVec 32 := 1#32
  let v56 : BitVec 32 := Scalar.muli arg17 c1_i32_49
  let v57 : BitVec 32 := Scalar.addi c0_i32_50 v56
  let v99 : Index := Scalar.indexCast v57
  let c96 : Index := 96#32
  let c0_64 : Index := 0#32
  ![v99.toNat, 96, 0]
def k0_off4 (k0_t1 : Fin k0_t1_loop.trips) : Fin 3 → Nat :=
  let c0_i32_50 : BitVec 32 := 0#32
  let c0_i32 : BitVec 32 := 0#32
  let c1_i32 : BitVec 32 := 1#32
  let arg17 : BitVec 32 := Scf.iv c0_i32 c1_i32 k0_t1
  let c1_i32_49 : BitVec 32 := 1#32
  let v56 : BitVec 32 := Scalar.muli arg17 c1_i32_49
  let v57 : BitVec 32 := Scalar.addi c0_i32_50 v56
  let v103 : Index := Scalar.indexCast v57
  let c192 : Index := 192#32
  let c0_65 : Index := 0#32
  ![v103.toNat, 192, 0]
@[reducible] def k0_t2_loop : Scf.Loop 32 :=
  let c0_i32_1 : BitVec 32 := 0#32
  let c16_i32_2 : BitVec 32 := 16#32
  let v1 : BitVec 32 := Scalar.addi c0_i32_1 c16_i32_2
  let c1_i32_3 : BitVec 32 := 1#32
  ⟨c0_i32_1, v1, c1_i32_3⟩
def k0_mult1 (k0_t2 : Fin k0_t2_loop.trips) : BitVec 32 :=
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  v58
def k0_off5 (k0_t2 : Fin k0_t2_loop.trips) : Fin 4 → Nat :=
  let c0_55 : Index := 0#32
  let c0_56 : Index := 0#32
  let c0_57 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v62 : Index := Scalar.indexCast v59
  ![0, 0, 0, v62.toNat]
def k0_off6 (k0_t2 : Fin k0_t2_loop.trips) : Fin 3 → Nat :=
  let c0_59 : Index := 0#32
  let c0_60 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v66 : Index := Scalar.indexCast v59
  ![0, 0, v66.toNat]
def k0_off7 (k0_t2 : Fin k0_t2_loop.trips) : Fin 4 → Nat :=
  let c0_68 : Index := 0#32
  let c1_69 : Index := 1#32
  let c0_70 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v76 : Index := Scalar.indexCast v59
  ![0, 1, 0, v76.toNat]
def k0_off8 (k0_t2 : Fin k0_t2_loop.trips) : Fin 3 → Nat :=
  let c0_72 : Index := 0#32
  let c1_73 : Index := 1#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v80 : Index := Scalar.indexCast v59
  ![0, 1, v80.toNat]
def k0_off9 (k0_t2 : Fin k0_t2_loop.trips) : Fin 4 → Nat :=
  let c0_81 : Index := 0#32
  let c2_82 : Index := 2#32
  let c0_83 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v90 : Index := Scalar.indexCast v59
  ![0, 2, 0, v90.toNat]
def k0_off10 (k0_t2 : Fin k0_t2_loop.trips) : Fin 3 → Nat :=
  let c0_85 : Index := 0#32
  let c2_86 : Index := 2#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v94 : Index := Scalar.indexCast v59
  ![0, 2, v94.toNat]
def k0_off11 (k0_t2 : Fin k0_t2_loop.trips) : Fin 4 → Nat :=
  let c0_94 : Index := 0#32
  let c3_95 : Index := 3#32
  let c0_96 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v104 : Index := Scalar.indexCast v59
  ![0, 3, 0, v104.toNat]
def k0_off12 (k0_t2 : Fin k0_t2_loop.trips) : Fin 3 → Nat :=
  let c0_98 : Index := 0#32
  let c3_99 : Index := 3#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v108 : Index := Scalar.indexCast v59
  ![0, 3, v108.toNat]
def k0_off13 (k0_t2 : Fin k0_t2_loop.trips) : Fin 4 → Nat :=
  let c0_107 : Index := 0#32
  let c4_108 : Index := 4#32
  let c0_109 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v118 : Index := Scalar.indexCast v59
  ![0, 4, 0, v118.toNat]
def k0_off14 (k0_t2 : Fin k0_t2_loop.trips) : Fin 3 → Nat :=
  let c0_111 : Index := 0#32
  let c4_112 : Index := 4#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v122 : Index := Scalar.indexCast v59
  ![0, 4, v122.toNat]
def k0_off15 (k0_t2 : Fin k0_t2_loop.trips) : Fin 4 → Nat :=
  let c0_120 : Index := 0#32
  let c5_121 : Index := 5#32
  let c0_122 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v132 : Index := Scalar.indexCast v59
  ![0, 5, 0, v132.toNat]
def k0_off16 (k0_t2 : Fin k0_t2_loop.trips) : Fin 3 → Nat :=
  let c0_124 : Index := 0#32
  let c5_125 : Index := 5#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v136 : Index := Scalar.indexCast v59
  ![0, 5, v136.toNat]
def k0_off17 (k0_t2 : Fin k0_t2_loop.trips) : Fin 4 → Nat :=
  let c0_133 : Index := 0#32
  let c6_134 : Index := 6#32
  let c0_135 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v146 : Index := Scalar.indexCast v59
  ![0, 6, 0, v146.toNat]
def k0_off18 (k0_t2 : Fin k0_t2_loop.trips) : Fin 3 → Nat :=
  let c0_137 : Index := 0#32
  let c6_138 : Index := 6#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v150 : Index := Scalar.indexCast v59
  ![0, 6, v150.toNat]
def k0_off19 (k0_t2 : Fin k0_t2_loop.trips) : Fin 4 → Nat :=
  let c0_146 : Index := 0#32
  let c7_147 : Index := 7#32
  let c0_148 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v160 : Index := Scalar.indexCast v59
  ![0, 7, 0, v160.toNat]
def k0_off20 (k0_t2 : Fin k0_t2_loop.trips) : Fin 3 → Nat :=
  let c0_150 : Index := 0#32
  let c7_151 : Index := 7#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v164 : Index := Scalar.indexCast v59
  ![0, 7, v164.toNat]
def k0_off21 (k0_t2 : Fin k0_t2_loop.trips) : Fin 4 → Nat :=
  let c0_158 : Index := 0#32
  let c8_159 : Index := 8#32
  let c0_160 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v174 : Index := Scalar.indexCast v59
  ![0, 8, 0, v174.toNat]
def k0_off22 (k0_t2 : Fin k0_t2_loop.trips) : Fin 3 → Nat :=
  let c0_162 : Index := 0#32
  let c8_163 : Index := 8#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v178 : Index := Scalar.indexCast v59
  ![0, 8, v178.toNat]
def k0_off23 (k0_t2 : Fin k0_t2_loop.trips) : Fin 4 → Nat :=
  let c0_170 : Index := 0#32
  let c9_171 : Index := 9#32
  let c0_172 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v188 : Index := Scalar.indexCast v59
  ![0, 9, 0, v188.toNat]
def k0_off24 (k0_t2 : Fin k0_t2_loop.trips) : Fin 3 → Nat :=
  let c0_174 : Index := 0#32
  let c9_175 : Index := 9#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v192 : Index := Scalar.indexCast v59
  ![0, 9, v192.toNat]
def k0_off25 (k0_t2 : Fin k0_t2_loop.trips) : Fin 4 → Nat :=
  let c0_182 : Index := 0#32
  let c10_183 : Index := 10#32
  let c0_184 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v202 : Index := Scalar.indexCast v59
  ![0, 10, 0, v202.toNat]
def k0_off26 (k0_t2 : Fin k0_t2_loop.trips) : Fin 3 → Nat :=
  let c0_186 : Index := 0#32
  let c10_187 : Index := 10#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v206 : Index := Scalar.indexCast v59
  ![0, 10, v206.toNat]
def k0_off27 (k0_t2 : Fin k0_t2_loop.trips) : Fin 4 → Nat :=
  let c0_194 : Index := 0#32
  let c11_195 : Index := 11#32
  let c0_196 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v216 : Index := Scalar.indexCast v59
  ![0, 11, 0, v216.toNat]
def k0_off28 (k0_t2 : Fin k0_t2_loop.trips) : Fin 3 → Nat :=
  let c0_198 : Index := 0#32
  let c11_199 : Index := 11#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v220 : Index := Scalar.indexCast v59
  ![0, 11, v220.toNat]
def k0_off29 (k0_t2 : Fin k0_t2_loop.trips) : Fin 4 → Nat :=
  let c0_206 : Index := 0#32
  let c12_207 : Index := 12#32
  let c0_208 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v230 : Index := Scalar.indexCast v59
  ![0, 12, 0, v230.toNat]
def k0_off30 (k0_t2 : Fin k0_t2_loop.trips) : Fin 3 → Nat :=
  let c0_210 : Index := 0#32
  let c12_211 : Index := 12#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v234 : Index := Scalar.indexCast v59
  ![0, 12, v234.toNat]
def k0_off31 (k0_t2 : Fin k0_t2_loop.trips) : Fin 4 → Nat :=
  let c0_218 : Index := 0#32
  let c13_219 : Index := 13#32
  let c0_220 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v244 : Index := Scalar.indexCast v59
  ![0, 13, 0, v244.toNat]
def k0_off32 (k0_t2 : Fin k0_t2_loop.trips) : Fin 3 → Nat :=
  let c0_222 : Index := 0#32
  let c13_223 : Index := 13#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v248 : Index := Scalar.indexCast v59
  ![0, 13, v248.toNat]
def k0_off33 (k0_t2 : Fin k0_t2_loop.trips) : Fin 4 → Nat :=
  let c0_230 : Index := 0#32
  let c14_231 : Index := 14#32
  let c0_232 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v258 : Index := Scalar.indexCast v59
  ![0, 14, 0, v258.toNat]
def k0_off34 (k0_t2 : Fin k0_t2_loop.trips) : Fin 3 → Nat :=
  let c0_234 : Index := 0#32
  let c14_235 : Index := 14#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v262 : Index := Scalar.indexCast v59
  ![0, 14, v262.toNat]
def k0_off35 (k0_t2 : Fin k0_t2_loop.trips) : Fin 4 → Nat :=
  let c0_242 : Index := 0#32
  let c15_243 : Index := 15#32
  let c0_244 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v272 : Index := Scalar.indexCast v59
  ![0, 15, 0, v272.toNat]
def k0_off36 (k0_t2 : Fin k0_t2_loop.trips) : Fin 3 → Nat :=
  let c0_246 : Index := 0#32
  let c15_247 : Index := 15#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v276 : Index := Scalar.indexCast v59
  ![0, 15, v276.toNat]
@[reducible] def k0_t3_loop : Scf.Loop 32 :=
  let c0_i32_251 : BitVec 32 := 0#32
  let c16_i32_252 : BitVec 32 := 16#32
  let v284 : BitVec 32 := Scalar.addi c0_i32_251 c16_i32_252
  let c1_i32_253 : BitVec 32 := 1#32
  ⟨c0_i32_251, v284, c1_i32_253⟩
def k0_mult2 (k0_t3 : Fin k0_t3_loop.trips) : BitVec 32 :=
  let c0_i32_256 : BitVec 32 := 0#32
  let c0_i32_251 : BitVec 32 := 0#32
  let c1_i32_253 : BitVec 32 := 1#32
  let arg18 : BitVec 32 := Scf.iv c0_i32_251 c1_i32_253 k0_t3
  let c1_i32_255 : BitVec 32 := 1#32
  let v285 : BitVec 32 := Scalar.muli arg18 c1_i32_255
  let v286 : BitVec 32 := Scalar.addi c0_i32_256 v285
  let c8_i32 : BitVec 32 := 8#32
  let v287 : BitVec 32 := Scalar.muli v286 c8_i32
  v287
def k0_off37 (k0_t3 : Fin k0_t3_loop.trips) : Fin 3 → Nat :=
  let c0_257 : Index := 0#32
  let c0_i32_256 : BitVec 32 := 0#32
  let c0_i32_251 : BitVec 32 := 0#32
  let c1_i32_253 : BitVec 32 := 1#32
  let arg18 : BitVec 32 := Scf.iv c0_i32_251 c1_i32_253 k0_t3
  let c1_i32_255 : BitVec 32 := 1#32
  let v285 : BitVec 32 := Scalar.muli arg18 c1_i32_255
  let v286 : BitVec 32 := Scalar.addi c0_i32_256 v285
  let c8_i32 : BitVec 32 := 8#32
  let v287 : BitVec 32 := Scalar.muli v286 c8_i32
  let v288 : BitVec 32 := v287
  let v289 : Index := Scalar.indexCast v288
  let c0_258 : Index := 0#32
  ![0, v289.toNat, 0]
def k0_off38 (k0_t3 : Fin k0_t3_loop.trips) : Fin 3 → Nat :=
  let c0_i32_256 : BitVec 32 := 0#32
  let c0_i32_251 : BitVec 32 := 0#32
  let c1_i32_253 : BitVec 32 := 1#32
  let arg18 : BitVec 32 := Scf.iv c0_i32_251 c1_i32_253 k0_t3
  let c1_i32_255 : BitVec 32 := 1#32
  let v285 : BitVec 32 := Scalar.muli arg18 c1_i32_255
  let v286 : BitVec 32 := Scalar.addi c0_i32_256 v285
  let v306 : Index := Scalar.indexCast v286
  let c0_260 : Index := 0#32
  let c0_261 : Index := 0#32
  ![v306.toNat, 0, 0]
def k0_off39 (k0_t3 : Fin k0_t3_loop.trips) : Fin 3 → Nat :=
  let c0_i32_256 : BitVec 32 := 0#32
  let c0_i32_251 : BitVec 32 := 0#32
  let c1_i32_253 : BitVec 32 := 1#32
  let arg18 : BitVec 32 := Scf.iv c0_i32_251 c1_i32_253 k0_t3
  let c1_i32_255 : BitVec 32 := 1#32
  let v285 : BitVec 32 := Scalar.muli arg18 c1_i32_255
  let v286 : BitVec 32 := Scalar.addi c0_i32_256 v285
  let v310 : Index := Scalar.indexCast v286
  let c192 : Index := 192#32
  let c0_263 : Index := 0#32
  ![v310.toNat, 192, 0]
def k0_off40 (k0_t2 : Fin k0_t2_loop.trips) (k0_t3 : Fin k0_t3_loop.trips) : Fin 3 → Nat :=
  let c0_i32_256 : BitVec 32 := 0#32
  let c0_i32_251 : BitVec 32 := 0#32
  let c1_i32_253 : BitVec 32 := 1#32
  let arg18 : BitVec 32 := Scf.iv c0_i32_251 c1_i32_253 k0_t3
  let c1_i32_255 : BitVec 32 := 1#32
  let v285 : BitVec 32 := Scalar.muli arg18 c1_i32_255
  let v286 : BitVec 32 := Scalar.addi c0_i32_256 v285
  let v318 : Index := Scalar.indexCast v286
  let c0_265 : Index := 0#32
  let c0_i32_50 : BitVec 32 := 0#32
  let c0_i32_1 : BitVec 32 := 0#32
  let c1_i32_3 : BitVec 32 := 1#32
  let arg17 : BitVec 32 := Scf.iv c0_i32_1 c1_i32_3 k0_t2
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v319 : Index := Scalar.indexCast v59
  ![v318.toNat, 0, v319.toNat]
@[reducible] def k0_t4_loop : Scf.Loop 32 :=
  let c0_i32_5 : BitVec 32 := 0#32
  let c16_i32_6 : BitVec 32 := 16#32
  let v2 : BitVec 32 := Scalar.addi c0_i32_5 c16_i32_6
  let c1_i32_7 : BitVec 32 := 1#32
  ⟨c0_i32_5, v2, c1_i32_7⟩
@[reducible] def k0_t5_loop : Scf.Loop 32 :=
  let c0_i32_52 : BitVec 32 := 0#32
  let c16_i32_53 : BitVec 32 := 16#32
  let v59 : BitVec 32 := Scalar.addi c0_i32_52 c16_i32_53
  let c1_i32_54 : BitVec 32 := 1#32
  ⟨c0_i32_52, v59, c1_i32_54⟩
def k0_mult3 (k0_t5 : Fin k0_t5_loop.trips) : BitVec 32 :=
  let c0_i32_52 : BitVec 32 := 0#32
  let c1_i32_54 : BitVec 32 := 1#32
  let arg18 : BitVec 32 := Scf.iv c0_i32_52 c1_i32_54 k0_t5
  let c256_i32 : BitVec 32 := 256#32
  let v192 : BitVec 32 := Scalar.muli arg18 c256_i32
  v192
def k0_off41 (k0_t4 : Fin k0_t4_loop.trips) (k0_t5 : Fin k0_t5_loop.trips) : Fin 3 → Nat :=
  let c0_i32_50 : BitVec 32 := 0#32
  let c0_i32_5 : BitVec 32 := 0#32
  let c1_i32_7 : BitVec 32 := 1#32
  let arg17 : BitVec 32 := Scf.iv c0_i32_5 c1_i32_7 k0_t4
  let c1_i32_49 : BitVec 32 := 1#32
  let v56 : BitVec 32 := Scalar.muli arg17 c1_i32_49
  let v57 : BitVec 32 := Scalar.addi c0_i32_50 v56
  let v194 : Index := Scalar.indexCast v57
  let c0_87 : Index := 0#32
  let c0_i32_52 : BitVec 32 := 0#32
  let c1_i32_54 : BitVec 32 := 1#32
  let arg18 : BitVec 32 := Scf.iv c0_i32_52 c1_i32_54 k0_t5
  let c256_i32 : BitVec 32 := 256#32
  let v192 : BitVec 32 := Scalar.muli arg18 c256_i32
  let v193 : BitVec 32 := v192
  let v195 : Index := Scalar.indexCast v193
  ![v194.toNat, 0, v195.toNat]
@[reducible] def k0_t6_loop : Scf.Loop 32 :=
  let c0_i32_58 : BitVec 32 := 0#32
  let c16_i32_59 : BitVec 32 := 16#32
  let v64 : BitVec 32 := Scalar.addi c0_i32_58 c16_i32_59
  let c1_i32_60 : BitVec 32 := 1#32
  ⟨c0_i32_58, v64, c1_i32_60⟩
def k0_mult4 (k0_t6 : Fin k0_t6_loop.trips) : BitVec 32 :=
  let c0_i32_58 : BitVec 32 := 0#32
  let c1_i32_60 : BitVec 32 := 1#32
  let arg18 : BitVec 32 := Scf.iv c0_i32_58 c1_i32_60 k0_t6
  let c256_i32 : BitVec 32 := 256#32
  let v192 : BitVec 32 := Scalar.muli arg18 c256_i32
  v192
def k0_off42 (k0_t4 : Fin k0_t4_loop.trips) (k0_t6 : Fin k0_t6_loop.trips) : Fin 3 → Nat :=
  let c0_i32_50 : BitVec 32 := 0#32
  let c0_i32_5 : BitVec 32 := 0#32
  let c1_i32_7 : BitVec 32 := 1#32
  let arg17 : BitVec 32 := Scf.iv c0_i32_5 c1_i32_7 k0_t4
  let c1_i32_49 : BitVec 32 := 1#32
  let v56 : BitVec 32 := Scalar.muli arg17 c1_i32_49
  let v57 : BitVec 32 := Scalar.addi c0_i32_50 v56
  let v194 : Index := Scalar.indexCast v57
  let c0_87 : Index := 0#32
  let c0_i32_58 : BitVec 32 := 0#32
  let c1_i32_60 : BitVec 32 := 1#32
  let arg18 : BitVec 32 := Scf.iv c0_i32_58 c1_i32_60 k0_t6
  let c256_i32 : BitVec 32 := 256#32
  let v192 : BitVec 32 := Scalar.muli arg18 c256_i32
  let v193 : BitVec 32 := v192
  let v195 : Index := Scalar.indexCast v193
  ![v194.toNat, 0, v195.toNat]
def k0_off43 (k0_t4 : Fin k0_t4_loop.trips) : Fin 3 → Nat :=
  let c0_i32_50 : BitVec 32 := 0#32
  let c0_i32_5 : BitVec 32 := 0#32
  let c1_i32_7 : BitVec 32 := 1#32
  let arg17 : BitVec 32 := Scf.iv c0_i32_5 c1_i32_7 k0_t4
  let c1_i32_49 : BitVec 32 := 1#32
  let v56 : BitVec 32 := Scalar.muli arg17 c1_i32_49
  let v57 : BitVec 32 := Scalar.addi c0_i32_50 v56
  let v180 : Index := Scalar.indexCast v57
  let c0_83 : Index := 0#32
  let c0_84 : Index := 0#32
  ![v180.toNat, 0, 0]
def k0_off44 (k0_t4 : Fin k0_t4_loop.trips) : Fin 3 → Nat :=
  let c0_i32_50 : BitVec 32 := 0#32
  let c0_i32_5 : BitVec 32 := 0#32
  let c1_i32_7 : BitVec 32 := 1#32
  let arg17 : BitVec 32 := Scf.iv c0_i32_5 c1_i32_7 k0_t4
  let c1_i32_49 : BitVec 32 := 1#32
  let v56 : BitVec 32 := Scalar.muli arg17 c1_i32_49
  let v57 : BitVec 32 := Scalar.addi c0_i32_50 v56
  let v184 : Index := Scalar.indexCast v57
  let c64 : Index := 64#32
  let c0_85 : Index := 0#32
  ![v184.toNat, 64, 0]
def k0_off45 (k0_t4 : Fin k0_t4_loop.trips) : Fin 3 → Nat :=
  let c0_i32_50 : BitVec 32 := 0#32
  let c0_i32_5 : BitVec 32 := 0#32
  let c1_i32_7 : BitVec 32 := 1#32
  let arg17 : BitVec 32 := Scf.iv c0_i32_5 c1_i32_7 k0_t4
  let c1_i32_49 : BitVec 32 := 1#32
  let v56 : BitVec 32 := Scalar.muli arg17 c1_i32_49
  let v57 : BitVec 32 := Scalar.addi c0_i32_50 v56
  let v188 : Index := Scalar.indexCast v57
  let c128 : Index := 128#32
  let c0_86 : Index := 0#32
  ![v188.toNat, 128, 0]
@[reducible] def k0_t7_loop : Scf.Loop 32 :=
  let c0_i32_11 : BitVec 32 := 0#32
  let c16_i32_12 : BitVec 32 := 16#32
  let v7 : BitVec 32 := Scalar.addi c0_i32_11 c16_i32_12
  let c1_i32_13 : BitVec 32 := 1#32
  ⟨c0_i32_11, v7, c1_i32_13⟩
def k0_mult5 (k0_t7 : Fin k0_t7_loop.trips) : BitVec 32 :=
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  v58
def k0_off46 (k0_t7 : Fin k0_t7_loop.trips) : Fin 3 → Nat :=
  let c0_51 : Index := 0#32
  let c0_52 : Index := 0#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v60 : Index := Scalar.indexCast v59
  ![0, 0, v60.toNat]
def k0_off47 (k0_t7 : Fin k0_t7_loop.trips) : Fin 3 → Nat :=
  let c0_53 : Index := 0#32
  let c1_54 : Index := 1#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v65 : Index := Scalar.indexCast v59
  ![0, 1, v65.toNat]
def k0_off48 (k0_t7 : Fin k0_t7_loop.trips) : Fin 3 → Nat :=
  let c0_55 : Index := 0#32
  let c2_56 : Index := 2#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v70 : Index := Scalar.indexCast v59
  ![0, 2, v70.toNat]
def k0_off49 (k0_t7 : Fin k0_t7_loop.trips) : Fin 3 → Nat :=
  let c0_57 : Index := 0#32
  let c3_58 : Index := 3#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v75 : Index := Scalar.indexCast v59
  ![0, 3, v75.toNat]
def k0_off50 (k0_t7 : Fin k0_t7_loop.trips) : Fin 3 → Nat :=
  let c0_59 : Index := 0#32
  let c4_60 : Index := 4#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v80 : Index := Scalar.indexCast v59
  ![0, 4, v80.toNat]
def k0_off51 (k0_t7 : Fin k0_t7_loop.trips) : Fin 3 → Nat :=
  let c0_61 : Index := 0#32
  let c5_62 : Index := 5#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v85 : Index := Scalar.indexCast v59
  ![0, 5, v85.toNat]
def k0_off52 (k0_t7 : Fin k0_t7_loop.trips) : Fin 3 → Nat :=
  let c0_63 : Index := 0#32
  let c6_64 : Index := 6#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v90 : Index := Scalar.indexCast v59
  ![0, 6, v90.toNat]
def k0_off53 (k0_t7 : Fin k0_t7_loop.trips) : Fin 3 → Nat :=
  let c0_65 : Index := 0#32
  let c7_66 : Index := 7#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v95 : Index := Scalar.indexCast v59
  ![0, 7, v95.toNat]
@[reducible] def k0_t8_loop : Scf.Loop 32 :=
  let c0_i32_68 : BitVec 32 := 0#32
  let c8_i32 : BitVec 32 := 8#32
  let v102 : BitVec 32 := Scalar.addi c0_i32_68 c8_i32
  let c1_i32_69 : BitVec 32 := 1#32
  ⟨c0_i32_68, v102, c1_i32_69⟩
def k0_off54 (k0_t7 : Fin k0_t7_loop.trips) (k0_t8 : Fin k0_t8_loop.trips) (c0_i32_177 : BitVec 32) : Fin 3 → Nat :=
  let c0_i32_176 : BitVec 32 := 0#32
  let c0_i32_68 : BitVec 32 := 0#32
  let c1_i32_69 : BitVec 32 := 1#32
  let arg18 : BitVec 32 := Scf.iv c0_i32_68 c1_i32_69 k0_t8
  let c1_i32_175 : BitVec 32 := 1#32
  let v207 : BitVec 32 := Scalar.muli arg18 c1_i32_175
  let v208 : BitVec 32 := Scalar.addi c0_i32_176 v207
  let c2_i32 : BitVec 32 := 2#32
  let v209 : BitVec 32 := Scalar.muli v208 c2_i32
  let v210 : BitVec 32 := Scalar.addi v209 c0_i32_177
  let v211 : Index := Scalar.indexCast v210
  let c0_178 : Index := 0#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v212 : Index := Scalar.indexCast v59
  ![v211.toNat, 0, v212.toNat]
def k0_off55 (k0_t8 : Fin k0_t8_loop.trips) (c0_i32_177 : BitVec 32) : Fin 3 → Nat :=
  let c0_i32_176 : BitVec 32 := 0#32
  let c0_i32_68 : BitVec 32 := 0#32
  let c1_i32_69 : BitVec 32 := 1#32
  let arg18 : BitVec 32 := Scf.iv c0_i32_68 c1_i32_69 k0_t8
  let c1_i32_175 : BitVec 32 := 1#32
  let v207 : BitVec 32 := Scalar.muli arg18 c1_i32_175
  let v208 : BitVec 32 := Scalar.addi c0_i32_176 v207
  let c2_i32 : BitVec 32 := 2#32
  let v209 : BitVec 32 := Scalar.muli v208 c2_i32
  let v210 : BitVec 32 := Scalar.addi v209 c0_i32_177
  let v233 : Index := Scalar.indexCast v210
  let c0_180 : Index := 0#32
  let c0_181 : Index := 0#32
  ![v233.toNat, 0, 0]
def k0_off56 (k0_t8 : Fin k0_t8_loop.trips) (c0_i32_177 : BitVec 32) : Fin 3 → Nat :=
  let c0_i32_176 : BitVec 32 := 0#32
  let c0_i32_68 : BitVec 32 := 0#32
  let c1_i32_69 : BitVec 32 := 1#32
  let arg18 : BitVec 32 := Scf.iv c0_i32_68 c1_i32_69 k0_t8
  let c1_i32_175 : BitVec 32 := 1#32
  let v207 : BitVec 32 := Scalar.muli arg18 c1_i32_175
  let v208 : BitVec 32 := Scalar.addi c0_i32_176 v207
  let c2_i32 : BitVec 32 := 2#32
  let v209 : BitVec 32 := Scalar.muli v208 c2_i32
  let v210 : BitVec 32 := Scalar.addi v209 c0_i32_177
  let v237 : Index := Scalar.indexCast v210
  let c128 : Index := 128#32
  let c0_183 : Index := 0#32
  ![v237.toNat, 128, 0]
def k0_mult6 (k0_t8 : Fin k0_t8_loop.trips) : BitVec 32 :=
  let c0_i32_176 : BitVec 32 := 0#32
  let c0_i32_68 : BitVec 32 := 0#32
  let c1_i32_69 : BitVec 32 := 1#32
  let arg18 : BitVec 32 := Scf.iv c0_i32_68 c1_i32_69 k0_t8
  let c1_i32_175 : BitVec 32 := 1#32
  let v207 : BitVec 32 := Scalar.muli arg18 c1_i32_175
  let v208 : BitVec 32 := Scalar.addi c0_i32_176 v207
  let c2_i32_196 : BitVec 32 := 2#32
  let v287 : BitVec 32 := Scalar.muli v208 c2_i32_196
  let c8_i32_197 : BitVec 32 := 8#32
  let v288 : BitVec 32 := Scalar.muli v287 c8_i32_197
  v288
def k0_off57 (k0_t8 : Fin k0_t8_loop.trips) : Fin 3 → Nat :=
  let c0_198 : Index := 0#32
  let c0_i32_176 : BitVec 32 := 0#32
  let c0_i32_68 : BitVec 32 := 0#32
  let c1_i32_69 : BitVec 32 := 1#32
  let arg18 : BitVec 32 := Scf.iv c0_i32_68 c1_i32_69 k0_t8
  let c1_i32_175 : BitVec 32 := 1#32
  let v207 : BitVec 32 := Scalar.muli arg18 c1_i32_175
  let v208 : BitVec 32 := Scalar.addi c0_i32_176 v207
  let c2_i32_196 : BitVec 32 := 2#32
  let v287 : BitVec 32 := Scalar.muli v208 c2_i32_196
  let c8_i32_197 : BitVec 32 := 8#32
  let v288 : BitVec 32 := Scalar.muli v287 c8_i32_197
  let v289 : BitVec 32 := v288
  let v290 : Index := Scalar.indexCast v289
  let c0_199 : Index := 0#32
  ![0, v290.toNat, 0]
def k0_off58 (k0_t7 : Fin k0_t7_loop.trips) : Fin 4 → Nat :=
  let c0_71 : Index := 0#32
  let c0_72 : Index := 0#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v103 : Index := Scalar.indexCast v59
  let c0_73 : Index := 0#32
  ![0, 0, v103.toNat, 0]
def k0_off59 (k0_t7 : Fin k0_t7_loop.trips) : Fin 4 → Nat :=
  let c0_84 : Index := 0#32
  let c1_85 : Index := 1#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v116 : Index := Scalar.indexCast v59
  let c0_86 : Index := 0#32
  ![0, 1, v116.toNat, 0]
def k0_off60 (k0_t7 : Fin k0_t7_loop.trips) : Fin 4 → Nat :=
  let c0_97 : Index := 0#32
  let c2_98 : Index := 2#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v129 : Index := Scalar.indexCast v59
  let c0_99 : Index := 0#32
  ![0, 2, v129.toNat, 0]
def k0_off61 (k0_t7 : Fin k0_t7_loop.trips) : Fin 4 → Nat :=
  let c0_110 : Index := 0#32
  let c3_111 : Index := 3#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v142 : Index := Scalar.indexCast v59
  let c0_112 : Index := 0#32
  ![0, 3, v142.toNat, 0]
def k0_off62 (k0_t7 : Fin k0_t7_loop.trips) : Fin 4 → Nat :=
  let c0_123 : Index := 0#32
  let c4_124 : Index := 4#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v155 : Index := Scalar.indexCast v59
  let c0_125 : Index := 0#32
  ![0, 4, v155.toNat, 0]
def k0_off63 (k0_t7 : Fin k0_t7_loop.trips) : Fin 4 → Nat :=
  let c0_136 : Index := 0#32
  let c5_137 : Index := 5#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v168 : Index := Scalar.indexCast v59
  let c0_138 : Index := 0#32
  ![0, 5, v168.toNat, 0]
def k0_off64 (k0_t7 : Fin k0_t7_loop.trips) : Fin 4 → Nat :=
  let c0_149 : Index := 0#32
  let c6_150 : Index := 6#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v181 : Index := Scalar.indexCast v59
  let c0_151 : Index := 0#32
  ![0, 6, v181.toNat, 0]
def k0_off65 (k0_t7 : Fin k0_t7_loop.trips) : Fin 4 → Nat :=
  let c0_162 : Index := 0#32
  let c7_163 : Index := 7#32
  let c0_i32_50 : BitVec 32 := 0#32
  let c0_i32_11 : BitVec 32 := 0#32
  let c1_i32_13 : BitVec 32 := 1#32
  let arg17 : BitVec 32 := Scf.iv c0_i32_11 c1_i32_13 k0_t7
  let c1_i32_49 : BitVec 32 := 1#32
  let v56 : BitVec 32 := Scalar.muli arg17 c1_i32_49
  let v57 : BitVec 32 := Scalar.addi c0_i32_50 v56
  let c256_i32 : BitVec 32 := 256#32
  let v58 : BitVec 32 := Scalar.muli v57 c256_i32
  let v59 : BitVec 32 := v58
  let v194 : Index := Scalar.indexCast v59
  let c0_164 : Index := 0#32
  ![0, 7, v194.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x128x160 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x16x160x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8x4096x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x16x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S96x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
abbrev S16x16x256 : Shape := ⟨3, ![16, 16, 256]⟩
abbrev S12x16x256 : Shape := ⟨3, ![12, 16, 256]⟩
variable {F : FTy → Type} [FloatOps F]
-- ==== ReferenceIdeal.lean ====
abbrev S3x4096x16x160 : Shape := ⟨4, ![3, 4096, 16, 160]⟩
abbrev S3x4096x16 : Shape := ⟨3, ![3, 4096, 16]⟩
abbrev S3x4096x8x160 : Shape := ⟨4, ![3, 4096, 8, 160]⟩
abbrev S3x4096x8 : Shape := ⟨3, ![3, 4096, 8]⟩
abbrev S16x12 : Shape := ⟨2, ![16, 12]⟩
abbrev S12x8 : Shape := ⟨2, ![12, 8]⟩
abbrev S3x16x4096 : Shape := ⟨3, ![3, 16, 4096]⟩
abbrev S3x16x1x4096 : Shape := ⟨4, ![3, 16, 1, 4096]⟩
abbrev S3x8x4096 : Shape := ⟨3, ![3, 8, 4096]⟩
abbrev S3x8x1x4096 : Shape := ⟨4, ![3, 8, 1, 4096]⟩
abbrev S3x16x4096x4096 : Shape := ⟨4, ![3, 16, 4096, 4096]⟩
abbrev S3x16x4096x1 : Shape := ⟨4, ![3, 16, 4096, 1]⟩
abbrev S12x3x4096x4096 : Shape := ⟨4, ![12, 3, 4096, 4096]⟩
abbrev S3x12x4096x4096 : Shape := ⟨4, ![3, 12, 4096, 4096]⟩
abbrev S_ : Shape := ⟨0, ![]⟩
abbrev S3x12x4096 : Shape := ⟨3, ![3, 12, 4096]⟩
abbrev S3x12x4096x1 : Shape := ⟨4, ![3, 12, 4096, 1]⟩
abbrev S8x3x4096x4096 : Shape := ⟨4, ![8, 3, 4096, 4096]⟩
abbrev S3x8x4096x4096 : Shape := ⟨4, ![3, 8, 4096, 4096]⟩
abbrev S3x8x160x4096 : Shape := ⟨4, ![3, 8, 160, 4096]⟩
abbrev S3x4096x1280 : Shape := ⟨3, ![3, 4096, 1280]⟩

abbrev nBuf : Space → Nat
  | .hbm => 50
  | .vmem => 6
  | .smem => 0
  | _ => 0

abbrev bufTy : (tb : Table) → Fin (tcTables nBuf tb) → BufTy
  | .hbm, ⟨0, _⟩ => ⟨S3x4096x16x160, .f32⟩
  | .hbm, ⟨1, _⟩ => ⟨S3x4096x16, .f32⟩
  | .hbm, ⟨2, _⟩ => ⟨S3x4096x16x160, .f32⟩
  | .hbm, ⟨3, _⟩ => ⟨S3x4096x16, .f32⟩
  | .hbm, ⟨4, _⟩ => ⟨S3x4096x8x160, .f32⟩
  | .hbm, ⟨5, _⟩ => ⟨S3x4096x8, .f32⟩
  | .hbm, ⟨6, _⟩ => ⟨S16x12, .f32⟩
  | .hbm, ⟨7, _⟩ => ⟨S12x8, .f32⟩
  | .hbm, ⟨8, _⟩ => ⟨S3x4096x16x160, .fp8e4m3⟩
  | .hbm, ⟨9, _⟩ => ⟨S3x4096x16x160, .fp8e4m3⟩
  | .hbm, ⟨10, _⟩ => ⟨S3x4096x8x160, .fp8e4m3⟩
  | .hbm, ⟨11, _⟩ => ⟨S3x4096x16x160, .f32⟩
  | .hbm, ⟨12, _⟩ => ⟨S3x4096x16x160, .f32⟩
  | .hbm, ⟨13, _⟩ => ⟨S3x4096x8x160, .bf16⟩
  | .hbm, ⟨14, _⟩ => ⟨S3x16x4096, .f32⟩
  | .hbm, ⟨15, _⟩ => ⟨S3x16x1x4096, .f32⟩
  | .hbm, ⟨16, _⟩ => ⟨S3x8x4096, .f32⟩
  | .hbm, ⟨17, _⟩ => ⟨S3x8x1x4096, .f32⟩
  | .hbm, ⟨18, _⟩ => ⟨S3x16x4096x4096, .f32⟩
  | .hbm, ⟨19, _⟩ => ⟨S3x16x4096, .f32⟩
  | .hbm, ⟨20, _⟩ => ⟨S3x16x4096x1, .f32⟩
  | .hbm, ⟨21, _⟩ => ⟨S3x16x4096x4096, .f32⟩
  | .hbm, ⟨22, _⟩ => ⟨S3x16x4096x4096, .f32⟩
  | .hbm, ⟨23, _⟩ => ⟨S3x16x4096x4096, .f32⟩
  | .hbm, ⟨24, _⟩ => ⟨S3x16x4096x4096, .f32⟩
  | .hbm, ⟨25, _⟩ => ⟨S12x3x4096x4096, .f32⟩
  | .hbm, ⟨26, _⟩ => ⟨S3x12x4096x4096, .f32⟩
  | .hbm, ⟨27, _⟩ => ⟨S_, .f32⟩
  | .hbm, ⟨28, _⟩ => ⟨S3x12x4096, .f32⟩
  | .hbm, ⟨29, _⟩ => ⟨S_, .f32⟩
  | .hbm, ⟨30, _⟩ => ⟨S3x12x4096, .f32⟩
  | .hbm, ⟨31, _⟩ => ⟨S3x12x4096, .f32⟩
  | .hbm, ⟨32, _⟩ => ⟨S3x12x4096x1, .f32⟩
  | .hbm, ⟨33, _⟩ => ⟨S3x12x4096x4096, .f32⟩
  | .hbm, ⟨34, _⟩ => ⟨S3x12x4096x4096, .f32⟩
  | .hbm, ⟨35, _⟩ => ⟨S3x12x4096x4096, .f32⟩
  | .hbm, ⟨36, _⟩ => ⟨S_, .f32⟩
  | .hbm, ⟨37, _⟩ => ⟨S3x12x4096, .f32⟩
  | .hbm, ⟨38, _⟩ => ⟨S3x12x4096x1, .f32⟩
  | .hbm, ⟨39, _⟩ => ⟨S3x12x4096x4096, .f32⟩
  | .hbm, ⟨40, _⟩ => ⟨S3x12x4096x4096, .f32⟩
  | .hbm, ⟨41, _⟩ => ⟨S8x3x4096x4096, .f32⟩
  | .hbm, ⟨42, _⟩ => ⟨S3x8x4096x4096, .f32⟩
  | .hbm, ⟨43, _⟩ => ⟨S3x8x4096x4096, .f32⟩
  | .hbm, ⟨44, _⟩ => ⟨S3x8x4096x4096, .f32⟩
  | .hbm, ⟨45, _⟩ => ⟨S3x8x4096x4096, .bf16⟩
  | .hbm, ⟨46, _⟩ => ⟨S3x8x160x4096, .f32⟩
  | .hbm, ⟨47, _⟩ => ⟨S3x4096x8x160, .f32⟩
  | .hbm, ⟨48, _⟩ => ⟨S3x4096x8x160, .bf16⟩
  | .hbm, ⟨49, _⟩ => ⟨S3x4096x1280, .bf16⟩
  | .local _ .vmem, ⟨0, _⟩ => ⟨S3x4096x16x160, .fp8e4m3⟩
  | .local _ .vmem, ⟨1, _⟩ => ⟨S3x4096x16x160, .fp8e4m3⟩
  | .local _ .vmem, ⟨2, _⟩ => ⟨S3x4096x8x160, .fp8e4m3⟩
  | .local _ .vmem, ⟨3, _⟩ => ⟨S3x4096x16x160, .f32⟩
  | .local _ .vmem, ⟨4, _⟩ => ⟨S3x4096x16x160, .f32⟩
  | .local _ .vmem, ⟨5, _⟩ => ⟨S3x4096x8x160, .bf16⟩
  | _, _ => ⟨S3x4096x16x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "scale" => some (((15308211 / 134217728) * (Real.log 2) : ℝ) : EReal)
  | _ => none

abbrev grid0 : Pipeline.Grid := .none

abbrev stage0_0 : Fin 1 → Memref sig .tc .vmem S3x4096x16x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4096x16x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x4096x8x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4096x16x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x4096x16x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x4096x8x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelLoops.lean ====
/- The frame of the idealized and the executed kernel is the same text over two programs; this is `Kernel`'s.

   The body is three outer loops, each with loops inside. Of the scratch arrays a frame need not say what they hold, so
   each outer loop's invariant keeps the arrays it reads at their contents and the arrays it writes at some contents. -/
module

public import proofs.«01_k».proof.Proof.Gen.Kernel.Loops
public import proofs.«01_k».proof.Proof.Gen.Kernel.Points
public import proofs.«01_k».proof.Proof.Gen.Kernel.Frame
public import Idealize.ShloMosaic.Lib.Claim

@[expose] public section

set_option maxRecDepth 16384
set_option warn.classDefReducibility false

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

/-- The score loop: over the column blocks, each trip fills `arg12` with one block of scores per head and mixes it into `arg11`. -/
@[sl_loop] def loopInv_k0_t2 (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (X2 : BufTy.Contents (Elt F) arg2.view.ty) (X3 : BufTy.Contents (Elt F) arg3.view.ty) (X6 : BufTy.Contents (Elt F) arg6.view.ty) (X15 : BufTy.Contents (Elt F) arg15.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv := fun k acc => iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg15.view.loc (c : Thread nD τ) ↦[arg15.view.set]{fullShare} X15) ∗ (∃ X, (arg11.view.loc (c : Thread nD τ) ↦[arg11.view.set]{fullShare} X)) ∗ (∃ X, (arg12.view.loc (c : Thread nD τ) ↦[arg12.view.set]{fullShare} X)))
  step := fun k acc => by
    unfold k0_t2_body
    iintro ⟨H2, H3, H6, H15, ⟨%X11, H11⟩, ⟨%X12, H12⟩⟩
    sl_exec
    sl_step
    isplitl [H2]; · iexact H2
    isplitl [H3]; · iexact H3
    isplitl [H6]; · iexact H6
    isplitl [H15]; · iexact H15
    isplitl [H11]; · (iexists _; iexact H11)
    (iexists _; iexact H12)

/-- The softmax loop: over the row groups, each trip normalises its rows of `arg11` in place and writes the second mixing weights of the group to `arg16`. -/
@[sl_loop] def loopInv_k0_t4 (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (X9 : BufTy.Contents (Elt F) arg9.view.ty) :
    LoopInvTy_k0_t4 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv := fun k acc => iprop((arg9.view.loc (c : Thread nD τ) ↦[arg9.view.set]{fullShare} X9) ∗ (∃ X, (arg11.view.loc (c : Thread nD τ) ↦[arg11.view.set]{fullShare} X)) ∗ (∃ X, (arg16.view.loc (c : Thread nD τ) ↦[arg16.view.set]{fullShare} X)))
  step := fun k acc => by
    unfold k0_t4_body
    iintro ⟨H9, ⟨%X11, H11⟩, ⟨%X16, H16⟩⟩
    sl_exec
    sl_step
    isplitl [H9]; · iexact H9
    isplitl [H11]; · (iexists _; iexact H11)
    (iexists _; iexact H16)

/-- The value loop: over the column blocks, each trip mixes the probabilities into `arg13` and adds their products with the values to `arg14`. -/
@[sl_loop] def loopInv_k0_t7 (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (X4 : BufTy.Contents (Elt F) arg4.view.ty) (X7 : BufTy.Contents (Elt F) arg7.view.ty) (X11 : BufTy.Contents (Elt F) arg11.view.ty) (X16 : BufTy.Contents (Elt F) arg16.view.ty) :
    LoopInvTy_k0_t7 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv := fun k acc => iprop((arg4.view.loc (c : Thread nD τ) ↦[arg4.view.set]{fullShare} X4) ∗ (arg7.view.loc (c : Thread nD τ) ↦[arg7.view.set]{fullShare} X7) ∗ (arg11.view.loc (c : Thread nD τ) ↦[arg11.view.set]{fullShare} X11) ∗ (arg16.view.loc (c : Thread nD τ) ↦[arg16.view.set]{fullShare} X16) ∗ (∃ X, (arg13.view.loc (c : Thread nD τ) ↦[arg13.view.set]{fullShare} X)) ∗ (∃ X, (arg14.view.loc (c : Thread nD τ) ↦[arg14.view.set]{fullShare} X)))
  step := fun k acc => by
    unfold k0_t7_body
    iintro ⟨H4, H7, H11, H16, ⟨%X13, H13⟩, ⟨%X14, H14⟩⟩
    sl_exec
    sl_step
    isplitl [H4]; · iexact H4
    isplitl [H7]; · iexact H7
    isplitl [H11]; · iexact H11
    isplitl [H16]; · iexact H16
    isplitl [H13]; · (iexists _; iexact H13)
    (iexists _; iexact H14)

end Cert.Kernel.Own

end
-- ==== Proof.KernelFrame.lean ====
/- The frame of the idealized and the executed kernel is the same text over two programs; this is `Kernel`'s.

   The body runs through its three outer loops by their invariants; the blocks of the arguments stay in place, and the
   block of the result and the scratch arrays end at some contents. -/
module

public import proofs.«01_k».proof.Proof.KernelLoops
public import proofs.«01_k».proof.Proof.Gen.Kernel.Points
public import proofs.«01_k».proof.Proof.Gen.Kernel.Frame
public import Idealize.ShloMosaic.Lib.Claim

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

/-- The body from the blocks of the arguments and anything in the result's block and the scratch arrays: it ends, the
    arguments' blocks as they were. -/
theorem sound_kernel (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole)
    (x2 : Vec F S1x16x128x160 .fp8e4m3) (x3 : Vec F S1x16x160x4096 .fp8e4m3) (x4 : Vec F S1x8x4096x160 .fp8e4m3) (x5 : Vec F S1x16x1x256 .f32) (x6 : Vec F S1x16x4096 .f32) (x7 : Vec F S1x8x4096 .f32) (x8 : Vec F S96x256 .f32) (x9 : Vec F S64x256 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) Set.univ (cc0_talking_heads i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_talking_heads_eq_skeleton]; unfold cc0_talking_heads_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  subst hf2 hf3 hf4 hf5 hf6 hf7 hf8 hf9
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  iexists _; iexists _; isplitr
  swap; · iexact H16
  ipureintro; rfl

variable (m : (ℓ : Loc nD τ sig) → Buf (Elt F) ℓ) (ρ : Dev nD → PrngReg)

/-- The result's window, whose contents this frame does not follow. -/
def fgt : Fin cfg0.W → Bool := fun w => w == 8

/-- The pipeline's proof data: each argument's staging buffer at its block; the result's is not described. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The region's invariant as the scratch arrays at some contents each, and the generator register. -/
theorem ΦA_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, ΦA_eq]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (sound_kernel c _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The body obligation, the result's window forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The run: every array that is none of the pipeline's ends as the region found it, and every counter at zero. -/
theorem run_main : θ_run defs (onTc (τ := τ) (main (F := F))) (s₀ m ρ) (fun r =>
    Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩, h.2⟩) (run_main m ρ)

end Cert.Kernel.Own

end
-- ==== Proof.KernelIdealLoops.lean ====
/- The frame of the idealized and the executed kernel is the same text over two programs; this is `KernelIdeal`'s.

   The body is three outer loops, each with loops inside. Of the scratch arrays a frame need not say what they hold, so
   each outer loop's invariant keeps the arrays it reads at their contents and the arrays it writes at some contents. -/
module

public import proofs.«01_k».proof.Proof.Gen.KernelIdeal.Loops
public import proofs.«01_k».proof.Proof.Gen.KernelIdeal.Points
public import proofs.«01_k».proof.Proof.Gen.KernelIdeal.Frame
public import Idealize.ShloMosaic.Lib.Claim

@[expose] public section

set_option maxRecDepth 16384
set_option warn.classDefReducibility false

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The score loop: over the column blocks, each trip fills `arg12` with one block of scores per head and mixes it into `arg11`. -/
@[sl_loop] def loopInv_k0_t2 (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (X2 : BufTy.Contents (Elt F) arg2.view.ty) (X3 : BufTy.Contents (Elt F) arg3.view.ty) (X6 : BufTy.Contents (Elt F) arg6.view.ty) (X15 : BufTy.Contents (Elt F) arg15.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv := fun k acc => iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg15.view.loc (c : Thread nD τ) ↦[arg15.view.set]{fullShare} X15) ∗ (∃ X, (arg11.view.loc (c : Thread nD τ) ↦[arg11.view.set]{fullShare} X)) ∗ (∃ X, (arg12.view.loc (c : Thread nD τ) ↦[arg12.view.set]{fullShare} X)))
  step := fun k acc => by
    unfold k0_t2_body
    iintro ⟨H2, H3, H6, H15, ⟨%X11, H11⟩, ⟨%X12, H12⟩⟩
    sl_exec
    sl_step
    isplitl [H2]; · iexact H2
    isplitl [H3]; · iexact H3
    isplitl [H6]; · iexact H6
    isplitl [H15]; · iexact H15
    isplitl [H11]; · (iexists _; iexact H11)
    (iexists _; iexact H12)

/-- The softmax loop: over the row groups, each trip normalises its rows of `arg11` in place and writes the second mixing weights of the group to `arg16`. -/
@[sl_loop] def loopInv_k0_t4 (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (X9 : BufTy.Contents (Elt F) arg9.view.ty) :
    LoopInvTy_k0_t4 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv := fun k acc => iprop((arg9.view.loc (c : Thread nD τ) ↦[arg9.view.set]{fullShare} X9) ∗ (∃ X, (arg11.view.loc (c : Thread nD τ) ↦[arg11.view.set]{fullShare} X)) ∗ (∃ X, (arg16.view.loc (c : Thread nD τ) ↦[arg16.view.set]{fullShare} X)))
  step := fun k acc => by
    unfold k0_t4_body
    iintro ⟨H9, ⟨%X11, H11⟩, ⟨%X16, H16⟩⟩
    sl_exec
    sl_step
    isplitl [H9]; · iexact H9
    isplitl [H11]; · (iexists _; iexact H11)
    (iexists _; iexact H16)

/-- The value loop: over the column blocks, each trip mixes the probabilities into `arg13` and adds their products with the values to `arg14`. -/
@[sl_loop] def loopInv_k0_t7 (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (X4 : BufTy.Contents (Elt F) arg4.view.ty) (X7 : BufTy.Contents (Elt F) arg7.view.ty) (X11 : BufTy.Contents (Elt F) arg11.view.ty) (X16 : BufTy.Contents (Elt F) arg16.view.ty) :
    LoopInvTy_k0_t7 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv := fun k acc => iprop((arg4.view.loc (c : Thread nD τ) ↦[arg4.view.set]{fullShare} X4) ∗ (arg7.view.loc (c : Thread nD τ) ↦[arg7.view.set]{fullShare} X7) ∗ (arg11.view.loc (c : Thread nD τ) ↦[arg11.view.set]{fullShare} X11) ∗ (arg16.view.loc (c : Thread nD τ) ↦[arg16.view.set]{fullShare} X16) ∗ (∃ X, (arg13.view.loc (c : Thread nD τ) ↦[arg13.view.set]{fullShare} X)) ∗ (∃ X, (arg14.view.loc (c : Thread nD τ) ↦[arg14.view.set]{fullShare} X)))
  step := fun k acc => by
    unfold k0_t7_body
    iintro ⟨H4, H7, H11, H16, ⟨%X13, H13⟩, ⟨%X14, H14⟩⟩
    sl_exec
    sl_step
    isplitl [H4]; · iexact H4
    isplitl [H7]; · iexact H7
    isplitl [H11]; · iexact H11
    isplitl [H16]; · iexact H16
    isplitl [H13]; · (iexists _; iexact H13)
    (iexists _; iexact H14)

end Cert.KernelIdeal.Own

end
-- ==== Proof.KernelIdealFrame.lean ====
/- The frame of the idealized and the executed kernel is the same text over two programs; this is `KernelIdeal`'s.

   The body runs through its three outer loops by their invariants; the blocks of the arguments stay in place, and the
   block of the result and the scratch arrays end at some contents. -/
module

public import proofs.«01_k».proof.Proof.KernelIdealLoops
public import proofs.«01_k».proof.Proof.Gen.KernelIdeal.Points
public import proofs.«01_k».proof.Proof.Gen.KernelIdeal.Frame
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body from the blocks of the arguments and anything in the result's block and the scratch arrays: it ends, the
    arguments' blocks as they were. -/
theorem sound_kernel (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole)
    (x2 : Vec F S1x16x128x160 .fp8e4m3) (x3 : Vec F S1x16x160x4096 .fp8e4m3) (x4 : Vec F S1x8x4096x160 .fp8e4m3) (x5 : Vec F S1x16x1x256 .f32) (x6 : Vec F S1x16x4096 .f32) (x7 : Vec F S1x8x4096 .f32) (x8 : Vec F S96x256 .f32) (x9 : Vec F S64x256 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) Set.univ (cc0_talking_heads i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_talking_heads_eq_skeleton]; unfold cc0_talking_heads_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  subst hf2 hf3 hf4 hf5 hf6 hf7 hf8 hf9
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  iexists _; iexists _; isplitr
  swap; · iexact H16
  ipureintro; rfl

variable (m : (ℓ : Loc nD τ sig) → Buf (Elt F) ℓ) (ρ : Dev nD → PrngReg)

/-- The result's window, whose contents this frame does not follow. -/
def fgt : Fin cfg0.W → Bool := fun w => w == 8

/-- The pipeline's proof data: each argument's staging buffer at its block; the result's is not described. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The region's invariant as the scratch arrays at some contents each, and the generator register. -/
theorem ΦA_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, ΦA_eq]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (sound_kernel c _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The body obligation, the result's window forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The run: every array that is none of the pipeline's ends as the region found it, and every counter at zero. -/
theorem run_main : θ_run defs (onTc (τ := τ) (main (F := F))) (s₀ m ρ) (fun r =>
    Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩, h.2⟩) (run_main m ρ)

end Cert.KernelIdeal.Own

end
-- ==== Proof.Model.lean ====
/- The kernel's block at one grid point over the real numbers, and what it means that an array holds given numbers. The
   values and their scales are extended real numbers: no step of the kernel needs them finite.

   `Blk` is what one grid point reads: a block of queries, all keys and values of one batch member, the scales, and the two
   mixing matrices in the layout in which the kernel keeps them. The functions below are the quantities its loops compute. -/
module

public import proofs.«01_k».proof.Proof.Gen.KernelIdeal.Skeleton
public import Idealize.ShloMosaic.Lib.Pointwise
public import Idealize.ShloMosaic.Lib.WritesUnit
public import Idealize.ShloMosaic.Lib.Pipeline.ValueKit

@[expose] public section

set_option maxRecDepth 16384

noncomputable section

namespace Cert.KernelIdeal.Val

open Cert.KernelIdeal Cert.KernelIdeal.Gen
open Idealize.ShloMosaic

/-- What one grid point reads, by natural-number coordinates: queries (head, row, depth), keys (head, depth, column),
    values (output head, column, depth), query scales (row group, lane), key scales (head, column), value scales (output
    head, column), and the two spread-out mixing matrices (row, lane). -/
structure Blk where
  q : ℕ → ℕ → ℕ → ℝ
  k : ℕ → ℕ → ℕ → ℝ
  v : ℕ → ℕ → ℕ → EReal
  qs : ℕ → ℕ → ℝ
  ks : ℕ → ℕ → ℝ
  vs : ℕ → ℕ → EReal
  w1 : ℕ → ℕ → ℝ
  w2 : ℕ → ℕ → ℝ

namespace Blk
variable (D : Blk)

/-- The score of head `h` at row `i` and column `j`, before the query scale. -/
def S (h i j : ℕ) : ℝ := (∑ d : Fin 160, D.q h i d * D.k h d j) * D.ks h j

/-- The first mixing weights of a row group with the query scales in, as the kernel lays them out: the weights, then zeros,
    then the weights at the even lanes. -/
def W1 (g r l : ℕ) : ℝ :=
  if r < 96 then D.w1 r l * D.qs g l else if r < 192 then 0 else if l % 2 = 1 then 0 else D.w1 (r - 192) l * D.qs g l

/-- A row of mixed scores: over the eight rows of group `g` and the sixteen heads, of which each row's weights keep one row. -/
def E (g r j : ℕ) : ℝ := ∑ t : Fin 128, D.w1 r (2 * t + 1) * D.qs g (2 * t + 1) * D.S (t / 8) (8 * g + t % 8) j

/-- The powers of two of a row, shifted by `m`, and their sum. -/
def X (g r : ℕ) (m : ℝ) (j : ℕ) : ℝ := Real.rpow 2 (D.E g r j - m)
def L (g r : ℕ) (m : ℝ) : ℝ := ∑ j : Fin 4096, D.X g r m j

/-- The softmax of a row of mixed scores (to the base two). -/
def A (g r j : ℕ) : ℝ := Real.rpow 2 (D.E g r j) / ∑ j' : Fin 4096, Real.rpow 2 (D.E g r j')

/-- The normalisation of the row that lane `l` of row `r` weighs, at the shift `m`. -/
def U (g : ℕ) (m : ℕ → ℝ) (r l : ℕ) : ℝ :=
  if l / 16 < 12 then 1 / D.L g (l / 16 * 8 + r % 8) (m (l / 16 * 8 + r % 8)) else 0

/-- The second mixing weights of a row group at the shift `m`, the normalisation in, as the kernel lays them out. -/
def W2 (g : ℕ) (m : ℕ → ℝ) (r l : ℕ) : ℝ :=
  if r < 64 then D.w2 r l * D.U g m r l else if r < 128 then 0
  else if l % 2 = 1 then 0 else D.w2 (r - 128) l * D.U g m (r - 128) l

/-- The probabilities of output head `m` at row `i` and column `j`, mixed and with the value scale in. -/
def Pr (m i j : ℕ) : EReal := ((∑ t : Fin 96, D.w2 (m * 8 + i % 8) (2 * t + 1) * D.A (i / 8) t j : ℝ) : EReal) * D.vs m j

/-- The second mixing matrix keeps the eight rows of a group apart: the weight of a lane for a row of another residue is zero. -/
def Diag : Prop := ∀ r l, l / 2 % 8 ≠ r % 8 → D.w2 r l = 0

end Blk

section Holds
variable {a b c d : ℕ}

/-- An array of two axes holds the extended real numbers `f`. -/
def E2 (X : (⟨2, ![a, b]⟩ : Shape).Idx → EReal) (f : ℕ → ℕ → EReal) : Prop := ∀ y, X y = f (y 0) (y 1)
def E3 (X : (⟨3, ![a, b, c]⟩ : Shape).Idx → EReal) (f : ℕ → ℕ → ℕ → EReal) : Prop :=
  ∀ y, X y = f (y 0) (y 1) (y 2)
def E4 (X : (⟨4, ![a, b, c, d]⟩ : Shape).Idx → EReal) (f : ℕ → ℕ → ℕ → ℕ → EReal) : Prop :=
  ∀ y, X y = f (y 0) (y 1) (y 2) (y 3)

theorem E2.at {X : (⟨2, ![a, b]⟩ : Shape).Idx → EReal} {f} (h : E2 X f) (x : Fin a) (y : Fin b) :
    X (ix2 x y) = f x y := h _
theorem E3.at {X : (⟨3, ![a, b, c]⟩ : Shape).Idx → EReal} {f} (h : E3 X f) (x : Fin a) (y : Fin b) (z : Fin c) :
    X (ix3 x y z) = f x y z := h _
theorem E4.at {X : (⟨4, ![a, b, c, d]⟩ : Shape).Idx → EReal} {f} (h : E4 X f) (x : Fin a) (y : Fin b) (z : Fin c) (w : Fin d) :
    X (ix4 x y z w) = f x y z w := h _
theorem E2.of {X : (⟨2, ![a, b]⟩ : Shape).Idx → EReal} {f : ℕ → ℕ → EReal}
    (h : ∀ x y, X (ix2 x y) = f x y) : E2 X f := fun y => by
  rw [eq_ix2 y]; exact h _ _
theorem E3.of {X : (⟨3, ![a, b, c]⟩ : Shape).Idx → EReal} {f : ℕ → ℕ → ℕ → EReal}
    (h : ∀ x y z, X (ix3 x y z) = f x y z) : E3 X f := fun y => by
  rw [eq_ix3 y]; exact h _ _ _
theorem E4.of {X : (⟨4, ![a, b, c, d]⟩ : Shape).Idx → EReal} {f : ℕ → ℕ → ℕ → ℕ → EReal}
    (h : ∀ x y z w, X (ix4 x y z w) = f x y z w) : E4 X f := fun y => by
  rw [eq_ix4 y]; exact h _ _ _ _

/-- An array of three axes holds the extended real numbers `f` where `P` says so. -/
def OnE3 (X : (⟨3, ![a, b, c]⟩ : Shape).Idx → EReal) (P : ℕ → ℕ → ℕ → Prop) (f : ℕ → ℕ → ℕ → EReal) : Prop :=
  ∀ y, P (y 0) (y 1) (y 2) → X y = f (y 0) (y 1) (y 2)

theorem E3.on {X : (⟨3, ![a, b, c]⟩ : Shape).Idx → EReal} {f} (h : E3 X f) (P : ℕ → ℕ → ℕ → Prop) : OnE3 X P f := fun y _ => h y
theorem OnE3.all {X : (⟨3, ![a, b, c]⟩ : Shape).Idx → EReal} {P f} (h : OnE3 X P f) (hP : ∀ x y z, x < a → y < b → z < c → P x y z) : E3 X f :=
  fun y => h y (hP _ _ _ (y 0).isLt (y 1).isLt (y 2).isLt)
theorem OnE3.mono {X : (⟨3, ![a, b, c]⟩ : Shape).Idx → EReal} {P Q f g} (h : OnE3 X P f)
    (hP : ∀ x y z, x < a → y < b → z < c → Q x y z → P x y z ∧ f x y z = g x y z) : OnE3 X Q g := fun y hy => by
  obtain ⟨h1, h2⟩ := hP _ _ _ (y 0).isLt (y 1).isLt (y 2).isLt hy
  rw [h y h1, h2]
theorem E3.congr {X : (⟨3, ![a, b, c]⟩ : Shape).Idx → EReal} {f g} (h : E3 X f)
    (hP : ∀ x y z, x < a → y < b → z < c → f x y z = g x y z) : E3 X g := fun y => by
  rw [h y, hP _ _ _ (y 0).isLt (y 1).isLt (y 2).isLt]
theorem E2.congr {X : (⟨2, ![a, b]⟩ : Shape).Idx → EReal} {f g} (h : E2 X f)
    (hP : ∀ x y, x < a → y < b → f x y = g x y) : E2 X g := fun y => by
  rw [h y, hP _ _ (y 0).isLt (y 1).isLt]

section View
variable {sig : RefSig} {κ : Kind} {sp : Space} {e : EltTy} (φ : Elt Ideal e → EReal)

/-- A load of a box reads the numbers at the box's offset. -/
theorem Core.E2.load {v : View sig κ sp ⟨2, ![a, b]⟩ e} {X : v.ty.Contents (Elt Ideal)} {f} (h : E2 (fun y => φ (v.read (Elt Ideal) X y)) f) {o0 o1 s0 s1 : ℕ}
    {off : Fin 2 → ℕ} {inb : ∀ i, off i + (![s0, s1] : Fin 2 → ℕ) i ≤ (⟨2, ![a, b]⟩ : Shape).size i} (ho : off = ![o0, o1]) :
    E2 (a := s0) (b := s1) (fun y => φ (v.readAt (Elt Ideal) (Rect.unit (s := ⟨2, ![a, b]⟩) off ![s0, s1] inb).toLoadRect X y)) (fun x y => f (o0 + x) (o1 + y)) := fun y => by
  subst ho
  refine (h _).trans ?_
  simp only [Rect.idx_unit_val]; rfl
theorem Core.E4.load {v : View sig κ sp ⟨4, ![a, b, c, d]⟩ e} {X : v.ty.Contents (Elt Ideal)} {f} (h : E4 (fun y => φ (v.read (Elt Ideal) X y)) f) {o0 o1 o2 o3 s0 s1 s2 s3 : ℕ}
    {off : Fin 4 → ℕ} {inb : ∀ i, off i + (![s0, s1, s2, s3] : Fin 4 → ℕ) i ≤ (⟨4, ![a, b, c, d]⟩ : Shape).size i} (ho : off = ![o0, o1, o2, o3]) :
    E4 (a := s0) (b := s1) (c := s2) (d := s3) (fun y => φ (v.readAt (Elt Ideal) (Rect.unit (s := ⟨4, ![a, b, c, d]⟩) off ![s0, s1, s2, s3] inb).toLoadRect X y))
      (fun x y z w => f (o0 + x) (o1 + y) (o2 + z) (o3 + w)) := fun y => by
  subst ho
  refine (h _).trans ?_
  simp only [Rect.idx_unit_val]; rfl
theorem Core.OnE3.load {v : View sig κ sp ⟨3, ![a, b, c]⟩ e} {X : v.ty.Contents (Elt Ideal)} {P f} (h : OnE3 (fun y => φ (v.read (Elt Ideal) X y)) P f) {o0 o1 o2 s0 s1 s2 : ℕ}
    {off : Fin 3 → ℕ} {inb : ∀ i, off i + (![s0, s1, s2] : Fin 3 → ℕ) i ≤ (⟨3, ![a, b, c]⟩ : Shape).size i} (ho : off = ![o0, o1, o2])
    (hP : ∀ x y z, x < s0 → y < s1 → z < s2 → P (o0 + x) (o1 + y) (o2 + z)) :
    E3 (a := s0) (b := s1) (c := s2) (fun y => φ (v.readAt (Elt Ideal) (Rect.unit (s := ⟨3, ![a, b, c]⟩) off ![s0, s1, s2] inb).toLoadRect X y))
      (fun x y z => f (o0 + x) (o1 + y) (o2 + z)) := fun y => by
  subst ho
  refine (h _ ?_).trans ?_
  · simp only [Rect.idx_unit_val]; exact hP _ _ _ (y 0).isLt (y 1).isLt (y 2).isLt
  simp only [Rect.idx_unit_val]; rfl
theorem Core.E3.load {v : View sig κ sp ⟨3, ![a, b, c]⟩ e} {X : v.ty.Contents (Elt Ideal)} {f} (h : E3 (fun y => φ (v.read (Elt Ideal) X y)) f) {o0 o1 o2 s0 s1 s2 : ℕ}
    {off : Fin 3 → ℕ} {inb : ∀ i, off i + (![s0, s1, s2] : Fin 3 → ℕ) i ≤ (⟨3, ![a, b, c]⟩ : Shape).size i} (ho : off = ![o0, o1, o2]) :
    E3 (a := s0) (b := s1) (c := s2) (fun y => φ (v.readAt (Elt Ideal) (Rect.unit (s := ⟨3, ![a, b, c]⟩) off ![s0, s1, s2] inb).toLoadRect X y))
      (fun x y z => f (o0 + x) (o1 + y) (o2 + z)) := Core.OnE3.load φ (h.on fun _ _ _ => True) ho fun _ _ _ _ _ _ => trivial

/-- A store of a box: inside it the stored numbers, outside what was there. -/
theorem Core.OnE3.store {v : View sig κ sp ⟨3, ![a, b, c]⟩ e} {X : v.ty.Contents (Elt Ideal)} {L : List (View.Piece (Elt Ideal) ⟨3, ![a, b, c]⟩ e)}
    {P f g} {o0 o1 o2 s0 s1 s2 : ℕ} {off : Fin 3 → ℕ} {inb : ∀ i, off i + (![s0, s1, s2] : Fin 3 → ℕ) i ≤ (⟨3, ![a, b, c]⟩ : Shape).size i}
    {w : (⟨3, ![s0, s1, s2]⟩ : Shape).Idx → Elt Ideal e} (hw : E3 (fun y => φ (w y)) g) (ho : off = ![o0, o1, o2])
    (hit : ∀ x y z, x < s0 → y < s1 → z < s2 → P (o0 + x) (o1 + y) (o2 + z) → g x y z = f (o0 + x) (o1 + y) (o2 + z))
    (miss : OnE3 (fun y => φ (v.read (Elt Ideal) (v.writes (Elt Ideal) X L) y))
      (fun x y z => P x y z ∧ ¬((o0 ≤ x ∧ x < o0 + s0) ∧ (o1 ≤ y ∧ y < o1 + s1) ∧ (o2 ≤ z ∧ z < o2 + s2))) f) :
    OnE3 (fun y => φ (v.read (Elt Ideal) (v.writes (Elt Ideal) X (⟨Rect.unit (s := ⟨3, ![a, b, c]⟩) off ![s0, s1, s2] inb, w⟩ :: L)) y)) P f := fun y hy => by
  show φ _ = _
  rw [View.read_writes_cons_unit v X inb w L y ho]
  split_ifs with h
  · have h0 := h 0; have h1 := h 1; have h2 := h 2
    simp only [Matrix.cons_val] at h0 h1 h2
    refine (hw _).trans ?_
    have e0 : o0 + ((Rect.unitLocal (s := ⟨3, ![a, b, c]⟩) y h) 0 : ℕ) = y 0 := by simp [Rect.unitLocal]; omega
    have e1 : o1 + ((Rect.unitLocal (s := ⟨3, ![a, b, c]⟩) y h) 1 : ℕ) = y 1 := by simp [Rect.unitLocal]; omega
    have e2 : o2 + ((Rect.unitLocal (s := ⟨3, ![a, b, c]⟩) y h) 2 : ℕ) = y 2 := by simp [Rect.unitLocal]; omega
    refine (hit _ _ _ ?_ ?_ ?_ ?_).trans ?_
    · exact (Rect.unitLocal (s := ⟨3, ![a, b, c]⟩) y h 0).isLt
    · exact (Rect.unitLocal (s := ⟨3, ![a, b, c]⟩) y h 1).isLt
    · exact (Rect.unitLocal (s := ⟨3, ![a, b, c]⟩) y h 2).isLt
    · rw [e0, e1, e2]; exact hy
    · rw [e0, e1, e2]
  · refine miss y ⟨hy, fun hc => h ?_⟩
    intro i; fin_cases i
    exacts [hc.1, hc.2.1, hc.2.2]
end View

/-! The same at each format. -/
section Formats
variable {sig : RefSig} {κ : Kind} {sp : Space}
theorem E2.loadF {v : View sig κ sp ⟨2, ![a, b]⟩ .f32} {X : v.ty.Contents (Elt Ideal)} {f} (h : E2 (v.read (Elt Ideal) X) f) {o0 o1 s0 s1 : ℕ}
    {off : Fin 2 → ℕ} {inb : ∀ i, off i + (![s0, s1] : Fin 2 → ℕ) i ≤ (⟨2, ![a, b]⟩ : Shape).size i} (ho : off = ![o0, o1]) :
    E2 (a := s0) (b := s1) (v.readAt (Elt Ideal) (Rect.unit (s := ⟨2, ![a, b]⟩) off ![s0, s1] inb).toLoadRect X) (fun x y => f (o0 + x) (o1 + y)) :=
  Core.E2.load (e := .f32) (v := v) id h ho
theorem E4.loadF {v : View sig κ sp ⟨4, ![a, b, c, d]⟩ .f32} {X : v.ty.Contents (Elt Ideal)} {f} (h : E4 (v.read (Elt Ideal) X) f) {o0 o1 o2 o3 s0 s1 s2 s3 : ℕ}
    {off : Fin 4 → ℕ} {inb : ∀ i, off i + (![s0, s1, s2, s3] : Fin 4 → ℕ) i ≤ (⟨4, ![a, b, c, d]⟩ : Shape).size i} (ho : off = ![o0, o1, o2, o3]) :
    E4 (a := s0) (b := s1) (c := s2) (d := s3) (v.readAt (Elt Ideal) (Rect.unit (s := ⟨4, ![a, b, c, d]⟩) off ![s0, s1, s2, s3] inb).toLoadRect X)
      (fun x y z w => f (o0 + x) (o1 + y) (o2 + z) (o3 + w)) :=
  Core.E4.load (e := .f32) (v := v) id h ho
theorem E4.loadQ {v : View sig κ sp ⟨4, ![a, b, c, d]⟩ .fp8e4m3} {X : v.ty.Contents (Elt Ideal)} {f} (h : E4 (v.read (Elt Ideal) X) f) {o0 o1 o2 o3 s0 s1 s2 s3 : ℕ}
    {off : Fin 4 → ℕ} {inb : ∀ i, off i + (![s0, s1, s2, s3] : Fin 4 → ℕ) i ≤ (⟨4, ![a, b, c, d]⟩ : Shape).size i} (ho : off = ![o0, o1, o2, o3]) :
    E4 (a := s0) (b := s1) (c := s2) (d := s3) (v.readAt (Elt Ideal) (Rect.unit (s := ⟨4, ![a, b, c, d]⟩) off ![s0, s1, s2, s3] inb).toLoadRect X)
      (fun x y z w => f (o0 + x) (o1 + y) (o2 + z) (o3 + w)) :=
  Core.E4.load (e := .fp8e4m3) (v := v) id h ho
theorem OnE3.loadF {v : View sig κ sp ⟨3, ![a, b, c]⟩ .f32} {X : v.ty.Contents (Elt Ideal)} {P f} (h : OnE3 (v.read (Elt Ideal) X) P f) {o0 o1 o2 s0 s1 s2 : ℕ}
    {off : Fin 3 → ℕ} {inb : ∀ i, off i + (![s0, s1, s2] : Fin 3 → ℕ) i ≤ (⟨3, ![a, b, c]⟩ : Shape).size i} (ho : off = ![o0, o1, o2])
    (hP : ∀ x y z, x < s0 → y < s1 → z < s2 → P (o0 + x) (o1 + y) (o2 + z)) :
    E3 (a := s0) (b := s1) (c := s2) (v.readAt (Elt Ideal) (Rect.unit (s := ⟨3, ![a, b, c]⟩) off ![s0, s1, s2] inb).toLoadRect X)
      (fun x y z => f (o0 + x) (o1 + y) (o2 + z)) :=
  Core.OnE3.load (e := .f32) (v := v) id h ho hP
theorem OnE3.loadB {v : View sig κ sp ⟨3, ![a, b, c]⟩ .bf16} {X : v.ty.Contents (Elt Ideal)} {P f} (h : OnE3 (v.read (Elt Ideal) X) P f) {o0 o1 o2 s0 s1 s2 : ℕ}
    {off : Fin 3 → ℕ} {inb : ∀ i, off i + (![s0, s1, s2] : Fin 3 → ℕ) i ≤ (⟨3, ![a, b, c]⟩ : Shape).size i} (ho : off = ![o0, o1, o2])
    (hP : ∀ x y z, x < s0 → y < s1 → z < s2 → P (o0 + x) (o1 + y) (o2 + z)) :
    E3 (a := s0) (b := s1) (c := s2) (v.readAt (Elt Ideal) (Rect.unit (s := ⟨3, ![a, b, c]⟩) off ![s0, s1, s2] inb).toLoadRect X)
      (fun x y z => f (o0 + x) (o1 + y) (o2 + z)) :=
  Core.OnE3.load (e := .bf16) (v := v) id h ho hP
theorem E3.loadF {v : View sig κ sp ⟨3, ![a, b, c]⟩ .f32} {X : v.ty.Contents (Elt Ideal)} {f} (h : E3 (v.read (Elt Ideal) X) f) {o0 o1 o2 s0 s1 s2 : ℕ}
    {off : Fin 3 → ℕ} {inb : ∀ i, off i + (![s0, s1, s2] : Fin 3 → ℕ) i ≤ (⟨3, ![a, b, c]⟩ : Shape).size i} (ho : off = ![o0, o1, o2]) :
    E3 (a := s0) (b := s1) (c := s2) (v.readAt (Elt Ideal) (Rect.unit (s := ⟨3, ![a, b, c]⟩) off ![s0, s1, s2] inb).toLoadRect X)
      (fun x y z => f (o0 + x) (o1 + y) (o2 + z)) :=
  Core.E3.load (e := .f32) (v := v) id h ho
theorem E3.loadB {v : View sig κ sp ⟨3, ![a, b, c]⟩ .bf16} {X : v.ty.Contents (Elt Ideal)} {f} (h : E3 (v.read (Elt Ideal) X) f) {o0 o1 o2 s0 s1 s2 : ℕ}
    {off : Fin 3 → ℕ} {inb : ∀ i, off i + (![s0, s1, s2] : Fin 3 → ℕ) i ≤ (⟨3, ![a, b, c]⟩ : Shape).size i} (ho : off = ![o0, o1, o2]) :
    E3 (a := s0) (b := s1) (c := s2) (v.readAt (Elt Ideal) (Rect.unit (s := ⟨3, ![a, b, c]⟩) off ![s0, s1, s2] inb).toLoadRect X)
      (fun x y z => f (o0 + x) (o1 + y) (o2 + z)) :=
  Core.E3.load (e := .bf16) (v := v) id h ho
theorem OnE3.storeF {v : View sig κ sp ⟨3, ![a, b, c]⟩ .f32} {X : v.ty.Contents (Elt Ideal)} {L : List (View.Piece (Elt Ideal) ⟨3, ![a, b, c]⟩ .f32)}
    {P f g} {o0 o1 o2 s0 s1 s2 : ℕ} {off : Fin 3 → ℕ} {inb : ∀ i, off i + (![s0, s1, s2] : Fin 3 → ℕ) i ≤ (⟨3, ![a, b, c]⟩ : Shape).size i}
    {w : (⟨3, ![s0, s1, s2]⟩ : Shape).Idx → Elt Ideal .f32} (hw : E3 w g) (ho : off = ![o0, o1, o2])
    (hit : ∀ x y z, x < s0 → y < s1 → z < s2 → P (o0 + x) (o1 + y) (o2 + z) → g x y z = f (o0 + x) (o1 + y) (o2 + z))
    (miss : OnE3 (v.read (Elt Ideal) (v.writes (Elt Ideal) X L))
      (fun x y z => P x y z ∧ ¬((o0 ≤ x ∧ x < o0 + s0) ∧ (o1 ≤ y ∧ y < o1 + s1) ∧ (o2 ≤ z ∧ z < o2 + s2))) f) :
    OnE3 (v.read (Elt Ideal) (v.writes (Elt Ideal) X (⟨Rect.unit (s := ⟨3, ![a, b, c]⟩) off ![s0, s1, s2] inb, w⟩ :: L))) P f :=
  Core.OnE3.store (e := .f32) (v := v) id hw ho hit miss
theorem OnE3.storeB {v : View sig κ sp ⟨3, ![a, b, c]⟩ .bf16} {X : v.ty.Contents (Elt Ideal)} {L : List (View.Piece (Elt Ideal) ⟨3, ![a, b, c]⟩ .bf16)}
    {P f g} {o0 o1 o2 s0 s1 s2 : ℕ} {off : Fin 3 → ℕ} {inb : ∀ i, off i + (![s0, s1, s2] : Fin 3 → ℕ) i ≤ (⟨3, ![a, b, c]⟩ : Shape).size i}
    {w : (⟨3, ![s0, s1, s2]⟩ : Shape).Idx → Elt Ideal .bf16} (hw : E3 w g) (ho : off = ![o0, o1, o2])
    (hit : ∀ x y z, x < s0 → y < s1 → z < s2 → P (o0 + x) (o1 + y) (o2 + z) → g x y z = f (o0 + x) (o1 + y) (o2 + z))
    (miss : OnE3 (v.read (Elt Ideal) (v.writes (Elt Ideal) X L))
      (fun x y z => P x y z ∧ ¬((o0 ≤ x ∧ x < o0 + s0) ∧ (o1 ≤ y ∧ y < o1 + s1) ∧ (o2 ≤ z ∧ z < o2 + s2))) f) :
    OnE3 (v.read (Elt Ideal) (v.writes (Elt Ideal) X (⟨Rect.unit (s := ⟨3, ![a, b, c]⟩) off ![s0, s1, s2] inb, w⟩ :: L))) P f :=
  Core.OnE3.store (e := .bf16) (v := v) id hw ho hit miss
end Formats

/-! The same at real numbers. -/

/-- An array of two axes holds the numbers `f`. -/
def R2 (X : (⟨2, ![a, b]⟩ : Shape).Idx → EReal) (f : ℕ → ℕ → ℝ) : Prop := E2 X fun x y => ((f x y : ℝ) : EReal)
def R3 (X : (⟨3, ![a, b, c]⟩ : Shape).Idx → EReal) (f : ℕ → ℕ → ℕ → ℝ) : Prop := E3 X fun x y z => ((f x y z : ℝ) : EReal)
def R4 (X : (⟨4, ![a, b, c, d]⟩ : Shape).Idx → EReal) (f : ℕ → ℕ → ℕ → ℕ → ℝ) : Prop := E4 X fun x y z w => ((f x y z w : ℝ) : EReal)

theorem R2.at {X : (⟨2, ![a, b]⟩ : Shape).Idx → EReal} {f} (h : R2 X f) (x : Fin a) (y : Fin b) :
    X (ix2 x y) = ((f x y : ℝ) : EReal) := h _
theorem R3.at {X : (⟨3, ![a, b, c]⟩ : Shape).Idx → EReal} {f} (h : R3 X f) (x : Fin a) (y : Fin b) (z : Fin c) :
    X (ix3 x y z) = ((f x y z : ℝ) : EReal) := h _
theorem R4.at {X : (⟨4, ![a, b, c, d]⟩ : Shape).Idx → EReal} {f} (h : R4 X f) (x : Fin a) (y : Fin b) (z : Fin c) (w : Fin d) :
    X (ix4 x y z w) = ((f x y z w : ℝ) : EReal) := h _
theorem R2.of {X : (⟨2, ![a, b]⟩ : Shape).Idx → EReal} {f : ℕ → ℕ → ℝ}
    (h : ∀ x y, X (ix2 x y) = ((f x y : ℝ) : EReal)) : R2 X f := fun y => by
  rw [eq_ix2 y]; exact h _ _
theorem R3.of {X : (⟨3, ![a, b, c]⟩ : Shape).Idx → EReal} {f : ℕ → ℕ → ℕ → ℝ}
    (h : ∀ x y z, X (ix3 x y z) = ((f x y z : ℝ) : EReal)) : R3 X f := fun y => by
  rw [eq_ix3 y]; exact h _ _ _
theorem R4.of {X : (⟨4, ![a, b, c, d]⟩ : Shape).Idx → EReal} {f : ℕ → ℕ → ℕ → ℕ → ℝ}
    (h : ∀ x y z w, X (ix4 x y z w) = ((f x y z w : ℝ) : EReal)) : R4 X f := fun y => by
  rw [eq_ix4 y]; exact h _ _ _ _

/-- An array of three axes holds the numbers `f` where `P` says so. -/
def On3 (X : (⟨3, ![a, b, c]⟩ : Shape).Idx → EReal) (P : ℕ → ℕ → ℕ → Prop) (f : ℕ → ℕ → ℕ → ℝ) : Prop :=
  OnE3 X P fun x y z => ((f x y z : ℝ) : EReal)

theorem R3.on {X : (⟨3, ![a, b, c]⟩ : Shape).Idx → EReal} {f} (h : R3 X f) (P : ℕ → ℕ → ℕ → Prop) : On3 X P f := fun y _ => h y
theorem On3.all {X : (⟨3, ![a, b, c]⟩ : Shape).Idx → EReal} {P f} (h : On3 X P f) (hP : ∀ x y z, x < a → y < b → z < c → P x y z) : R3 X f :=
  fun y => h y (hP _ _ _ (y 0).isLt (y 1).isLt (y 2).isLt)
theorem On3.mono {X : (⟨3, ![a, b, c]⟩ : Shape).Idx → EReal} {P Q f g} (h : On3 X P f)
    (hP : ∀ x y z, x < a → y < b → z < c → Q x y z → P x y z ∧ f x y z = g x y z) : On3 X Q g := fun y hy => by
  obtain ⟨h1, h2⟩ := hP _ _ _ (y 0).isLt (y 1).isLt (y 2).isLt hy
  exact (h y h1).trans (congrArg _ h2)
theorem R3.congr {X : (⟨3, ![a, b, c]⟩ : Shape).Idx → EReal} {f g} (h : R3 X f)
    (hP : ∀ x y z, x < a → y < b → z < c → f x y z = g x y z) : R3 X g := fun y => by
  exact (h y).trans (congrArg _ (hP _ _ _ (y 0).isLt (y 1).isLt (y 2).isLt))
theorem R2.congr {X : (⟨2, ![a, b]⟩ : Shape).Idx → EReal} {f g} (h : R2 X f)
    (hP : ∀ x y, x < a → y < b → f x y = g x y) : R2 X g := fun y => by
  exact (h y).trans (congrArg _ (hP _ _ (y 0).isLt (y 1).isLt))

section Formats
variable {sig : RefSig} {κ : Kind} {sp : Space}
theorem R2.loadF {v : View sig κ sp ⟨2, ![a, b]⟩ .f32} {X : v.ty.Contents (Elt Ideal)} {f} (h : R2 (v.read (Elt Ideal) X) f) {o0 o1 s0 s1 : ℕ}
    {off : Fin 2 → ℕ} {inb : ∀ i, off i + (![s0, s1] : Fin 2 → ℕ) i ≤ (⟨2, ![a, b]⟩ : Shape).size i} (ho : off = ![o0, o1]) :
    R2 (a := s0) (b := s1) (v.readAt (Elt Ideal) (Rect.unit (s := ⟨2, ![a, b]⟩) off ![s0, s1] inb).toLoadRect X) (fun x y => f (o0 + x) (o1 + y)) :=
  E2.loadF h ho
theorem R4.loadF {v : View sig κ sp ⟨4, ![a, b, c, d]⟩ .f32} {X : v.ty.Contents (Elt Ideal)} {f} (h : R4 (v.read (Elt Ideal) X) f) {o0 o1 o2 o3 s0 s1 s2 s3 : ℕ}
    {off : Fin 4 → ℕ} {inb : ∀ i, off i + (![s0, s1, s2, s3] : Fin 4 → ℕ) i ≤ (⟨4, ![a, b, c, d]⟩ : Shape).size i} (ho : off = ![o0, o1, o2, o3]) :
    R4 (a := s0) (b := s1) (c := s2) (d := s3) (v.readAt (Elt Ideal) (Rect.unit (s := ⟨4, ![a, b, c, d]⟩) off ![s0, s1, s2, s3] inb).toLoadRect X)
      (fun x y z w => f (o0 + x) (o1 + y) (o2 + z) (o3 + w)) :=
  E4.loadF h ho
theorem R4.loadQ {v : View sig κ sp ⟨4, ![a, b, c, d]⟩ .fp8e4m3} {X : v.ty.Contents (Elt Ideal)} {f} (h : R4 (v.read (Elt Ideal) X) f) {o0 o1 o2 o3 s0 s1 s2 s3 : ℕ}
    {off : Fin 4 → ℕ} {inb : ∀ i, off i + (![s0, s1, s2, s3] : Fin 4 → ℕ) i ≤ (⟨4, ![a, b, c, d]⟩ : Shape).size i} (ho : off = ![o0, o1, o2, o3]) :
    R4 (a := s0) (b := s1) (c := s2) (d := s3) (v.readAt (Elt Ideal) (Rect.unit (s := ⟨4, ![a, b, c, d]⟩) off ![s0, s1, s2, s3] inb).toLoadRect X)
      (fun x y z w => f (o0 + x) (o1 + y) (o2 + z) (o3 + w)) :=
  E4.loadQ h ho
theorem On3.loadF {v : View sig κ sp ⟨3, ![a, b, c]⟩ .f32} {X : v.ty.Contents (Elt Ideal)} {P f} (h : On3 (v.read (Elt Ideal) X) P f) {o0 o1 o2 s0 s1 s2 : ℕ}
    {off : Fin 3 → ℕ} {inb : ∀ i, off i + (![s0, s1, s2] : Fin 3 → ℕ) i ≤ (⟨3, ![a, b, c]⟩ : Shape).size i} (ho : off = ![o0, o1, o2])
    (hP : ∀ x y z, x < s0 → y < s1 → z < s2 → P (o0 + x) (o1 + y) (o2 + z)) :
    R3 (a := s0) (b := s1) (c := s2) (v.readAt (Elt Ideal) (Rect.unit (s := ⟨3, ![a, b, c]⟩) off ![s0, s1, s2] inb).toLoadRect X)
      (fun x y z => f (o0 + x) (o1 + y) (o2 + z)) :=
  OnE3.loadF h ho hP
theorem On3.loadB {v : View sig κ sp ⟨3, ![a, b, c]⟩ .bf16} {X : v.ty.Contents (Elt Ideal)} {P f} (h : On3 (v.read (Elt Ideal) X) P f) {o0 o1 o2 s0 s1 s2 : ℕ}
    {off : Fin 3 → ℕ} {inb : ∀ i, off i + (![s0, s1, s2] : Fin 3 → ℕ) i ≤ (⟨3, ![a, b, c]⟩ : Shape).size i} (ho : off = ![o0, o1, o2])
    (hP : ∀ x y z, x < s0 → y < s1 → z < s2 → P (o0 + x) (o1 + y) (o2 + z)) :
    R3 (a := s0) (b := s1) (c := s2) (v.readAt (Elt Ideal) (Rect.unit (s := ⟨3, ![a, b, c]⟩) off ![s0, s1, s2] inb).toLoadRect X)
      (fun x y z => f (o0 + x) (o1 + y) (o2 + z)) :=
  OnE3.loadB h ho hP
theorem R3.loadF {v : View sig κ sp ⟨3, ![a, b, c]⟩ .f32} {X : v.ty.Contents (Elt Ideal)} {f} (h : R3 (v.read (Elt Ideal) X) f) {o0 o1 o2 s0 s1 s2 : ℕ}
    {off : Fin 3 → ℕ} {inb : ∀ i, off i + (![s0, s1, s2] : Fin 3 → ℕ) i ≤ (⟨3, ![a, b, c]⟩ : Shape).size i} (ho : off = ![o0, o1, o2]) :
    R3 (a := s0) (b := s1) (c := s2) (v.readAt (Elt Ideal) (Rect.unit (s := ⟨3, ![a, b, c]⟩) off ![s0, s1, s2] inb).toLoadRect X)
      (fun x y z => f (o0 + x) (o1 + y) (o2 + z)) :=
  E3.loadF h ho
theorem R3.loadB {v : View sig κ sp ⟨3, ![a, b, c]⟩ .bf16} {X : v.ty.Contents (Elt Ideal)} {f} (h : R3 (v.read (Elt Ideal) X) f) {o0 o1 o2 s0 s1 s2 : ℕ}
    {off : Fin 3 → ℕ} {inb : ∀ i, off i + (![s0, s1, s2] : Fin 3 → ℕ) i ≤ (⟨3, ![a, b, c]⟩ : Shape).size i} (ho : off = ![o0, o1, o2]) :
    R3 (a := s0) (b := s1) (c := s2) (v.readAt (Elt Ideal) (Rect.unit (s := ⟨3, ![a, b, c]⟩) off ![s0, s1, s2] inb).toLoadRect X)
      (fun x y z => f (o0 + x) (o1 + y) (o2 + z)) :=
  E3.loadB h ho
theorem On3.storeF {v : View sig κ sp ⟨3, ![a, b, c]⟩ .f32} {X : v.ty.Contents (Elt Ideal)} {L : List (View.Piece (Elt Ideal) ⟨3, ![a, b, c]⟩ .f32)}
    {P f g} {o0 o1 o2 s0 s1 s2 : ℕ} {off : Fin 3 → ℕ} {inb : ∀ i, off i + (![s0, s1, s2] : Fin 3 → ℕ) i ≤ (⟨3, ![a, b, c]⟩ : Shape).size i}
    {w : (⟨3, ![s0, s1, s2]⟩ : Shape).Idx → Elt Ideal .f32} (hw : R3 w g) (ho : off = ![o0, o1, o2])
    (hit : ∀ x y z, x < s0 → y < s1 → z < s2 → P (o0 + x) (o1 + y) (o2 + z) → g x y z = f (o0 + x) (o1 + y) (o2 + z))
    (miss : On3 (v.read (Elt Ideal) (v.writes (Elt Ideal) X L))
      (fun x y z => P x y z ∧ ¬((o0 ≤ x ∧ x < o0 + s0) ∧ (o1 ≤ y ∧ y < o1 + s1) ∧ (o2 ≤ z ∧ z < o2 + s2))) f) :
    On3 (v.read (Elt Ideal) (v.writes (Elt Ideal) X (⟨Rect.unit (s := ⟨3, ![a, b, c]⟩) off ![s0, s1, s2] inb, w⟩ :: L))) P f :=
  OnE3.storeF hw ho (fun x y z hx hy hz hP => congrArg _ (hit x y z hx hy hz hP)) miss
theorem On3.storeB {v : View sig κ sp ⟨3, ![a, b, c]⟩ .bf16} {X : v.ty.Contents (Elt Ideal)} {L : List (View.Piece (Elt Ideal) ⟨3, ![a, b, c]⟩ .bf16)}
    {P f g} {o0 o1 o2 s0 s1 s2 : ℕ} {off : Fin 3 → ℕ} {inb : ∀ i, off i + (![s0, s1, s2] : Fin 3 → ℕ) i ≤ (⟨3, ![a, b, c]⟩ : Shape).size i}
    {w : (⟨3, ![s0, s1, s2]⟩ : Shape).Idx → Elt Ideal .bf16} (hw : R3 w g) (ho : off = ![o0, o1, o2])
    (hit : ∀ x y z, x < s0 → y < s1 → z < s2 → P (o0 + x) (o1 + y) (o2 + z) → g x y z = f (o0 + x) (o1 + y) (o2 + z))
    (miss : On3 (v.read (Elt Ideal) (v.writes (Elt Ideal) X L))
      (fun x y z => P x y z ∧ ¬((o0 ≤ x ∧ x < o0 + s0) ∧ (o1 ≤ y ∧ y < o1 + s1) ∧ (o2 ≤ z ∧ z < o2 + s2))) f) :
    On3 (v.read (Elt Ideal) (v.writes (Elt Ideal) X (⟨Rect.unit (s := ⟨3, ![a, b, c]⟩) off ![s0, s1, s2] inb, w⟩ :: L))) P f :=
  OnE3.storeB hw ho (fun x y z hx hy hz hP => congrArg _ (hit x y z hx hy hz hP)) miss
end Formats

end Holds

end Cert.KernelIdeal.Val
-- ==== Proof.Pay1.lean ====
/- What the payloads compute, at real numbers. -/
module

public import proofs.«01_k».proof.Proof.Model

@[expose] public section

set_option maxRecDepth 16384

noncomputable section

namespace Cert.KernelIdeal.Val

open Cert.KernelIdeal Cert.KernelIdeal.Gen
open Idealize.ShloMosaic

theorem coe_ite (p : Prop) [Decidable p] (a b : ℝ) : (if p then (a : EReal) else (b : EReal)) = ((if p then a else b : ℝ) : EReal) := by
  split_ifs <;> rfl
theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

theorem sum_pairs (n : ℕ) (f : ℕ → ℝ) : ∑ x : Fin (n * 2), f x = ∑ t : Fin n, (f (2 * t) + f (2 * t + 1)) := by
  rw [Fin.sum_univ_eq_sum_range (fun x => f x), Fin.sum_univ_eq_sum_range (fun t => f (2 * t) + f (2 * t + 1))]
  induction n with
  | zero => simp
  | succ n ih =>
    rw [Finset.sum_range_succ, ← ih, show (n + 1) * 2 = n * 2 + 1 + 1 by omega, Finset.sum_range_succ, Finset.sum_range_succ, mul_comm n 2]
    ring

theorem pay7_R {v58 : Vec Ideal S96x256 .f32} {v61 : Vec Ideal S1x1x1x256 .f32} {w q} (h58 : R2 v58 w) (h61 : R4 v61 q) :
    R3 (k0_pay7 v58 v61) (fun _ r l => w r l * q 0 0 0 l) := R3.of fun x y z => by
  obtain rfl : x = 0 := Subsingleton.elim _ _
  pointwise [k0_pay7, k0_pay4, k0_pay3]
  rw [h58.at, h61.at, EReal.coe_mul]; rfl

theorem pay65_R {v58 : Vec Ideal S96x256 .f32} {v61 : Vec Ideal S1x1x1x256 .f32} {w q} (h58 : R2 v58 w) (h61 : R4 v61 q) :
    R3 (k0_pay65 (k0_pay5 v58 v61)) (fun _ _ _ => 0) := R3.of fun x y z => by
  obtain rfl : x = 0 := Subsingleton.elim _ _
  pointwise [k0_pay65, k0_pay5, k0_pay4, k0_pay3]
  simp only [h58.at, h61.at, ← EReal.coe_mul, ← EReal.coe_sub, sub_self]

/-- The lane parity as the kernel computes it, at each of the 256 lanes. -/
theorem odd_bit : ∀ z : Fin 256, (IntOp.cmpi CmpIPredicate.eq
        (Scalar.select
          (IntOp.andi
            (IntOp.xori
              (IntOp.cmpi CmpIPredicate.slt
                (IntOp.remsi ArithUnit.vector (BitVec.ofNat 32 ↑z)
                  (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (IntOp.cmpi CmpIPredicate.ne
              (IntOp.remsi ArithUnit.vector (BitVec.ofNat 32 ↑z)
                (Scalar.select (Scalar.cmpi CmpIPredicate.eq 2#32 0#32) 1#32 2#32))
              0#32))
          (IntOp.addi
            (IntOp.remsi ArithUnit.vector (BitVec.ofNat 32 ↑z)
              (Scalar.select (Scalar.cmpi CmpIPredicate.eq 2#32 0#32) 1#32 2#32))
            (Scalar.select (Scalar.cmpi CmpIPredicate.eq 2#32 0#32) 1#32 2#32))
          (IntOp.remsi ArithUnit.vector (BitVec.ofNat 32 ↑z)
            (Scalar.select (Scalar.cmpi CmpIPredicate.eq 2#32 0#32) 1#32 2#32)))
        1#32) = if z.val % 2 = 1 then 1#1 else 0#1 := by decide +kernel

theorem pay66_R {v58 : Vec Ideal S96x256 .f32} {v61 : Vec Ideal S1x1x1x256 .f32} {w q} (h58 : R2 v58 w) (h61 : R4 v61 q) :
    R3 (k0_pay66 (k0_pay6 v58 v61)) (fun _ r l => if l % 2 = 1 then 0 else w r l * q 0 0 0 l) := R3.of fun x y z => by
  obtain rfl : x = 0 := Subsingleton.elim _ _
  pointwise [k0_pay66, k0_pay6, k0_pay4, k0_pay3]
  simp only [h58.at, h61.at, ← EReal.coe_mul, ← EReal.coe_sub, sub_self]
  refine (congrArg (fun c => Scalar.select c _ _) (odd_bit z)).trans ?_
  by_cases h : z.val % 2 = 1
  · rw [if_pos h, if_pos h]; rfl
  · rw [if_neg h, if_neg h]; rfl

theorem pay69_R {v290 : Vec Ideal S16x8x256 .f32} {v307 : Vec Ideal S1x192x256 .bf16} {v311 : Vec Ideal S1x96x256 .bf16} {s a b}
    (h290 : R3 v290 s) (h307 : R3 v307 a) (h311 : R3 v311 b) : R3 (k0_pay69 v290 v307 v311) (fun _ r j =>
      ∑ t : Fin 128, (a 0 r (2 * t + 1) + a 0 (96 + r) (2 * t + 1) + b 0 r (2 * t + 1)) * s (t / 8) (t % 8) j) := R3.of fun x y z => by
  obtain rfl : x = 0 := Subsingleton.elim _ _
  pointwise [k0_pay69]
  simp only [h290.at, h307.at, h311.at, ← EReal.coe_mul, ← EReal.coe_sub, sub_self, coe_ite, coe_sum, ← EReal.coe_add]
  congr 1
  have e (f : ℕ → ℝ) : (∑ x : Fin 256, f x * if (x : ℕ) % 2 = 0 then 0 else s (x / 2 / 8) (x / 2 % 8) z)
      = ∑ t : Fin 128, f (2 * t + 1) * s (t / 8) (t % 8) z := by
    refine (sum_pairs 128 (fun x => f x * if x % 2 = 0 then 0 else s (x / 2 / 8) (x / 2 % 8) z)).trans (Finset.sum_congr rfl fun t _ => ?_)
    simp only [show (2 * (t : ℕ)) % 2 = 0 by omega, show (2 * (t : ℕ) + 1) % 2 = 1 by omega, show (2 * (t : ℕ) + 1) / 2 = t by omega]
    simp
  have e0 := e (a 0 y); have e1 := e (a 0 (96 + y)); have e2 := e (b 0 y)
  refine (congrArg₂ (· + ·) (congrArg₂ (· + ·) e0 e1) e2).trans ?_
  rw [← Finset.sum_add_distrib, ← Finset.sum_add_distrib]
  exact Finset.sum_congr rfl fun t _ => by ring

end Cert.KernelIdeal.Val
-- ==== Proof.Pay2.lean ====
/- What the payloads compute, given the numbers that their operands hold. -/
module

public import proofs.«01_k».proof.Proof.Pay1

@[expose] public section

set_option maxRecDepth 16384

noncomputable section

namespace Cert.KernelIdeal.Val

open Cert.KernelIdeal Cert.KernelIdeal.Gen
open Idealize.ShloMosaic

theorem pay8_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay8 a b c) (fun _ i j => (∑ d : Fin 160, q 0 0 i d * k 0 0 d j) * s 0 0 j) := R3.of fun x y z => by
  obtain rfl : x = 0 := Subsingleton.elim _ _
  pointwise [k0_pay8]
  simp only [ha.at, hb.at, hc.at, ← EReal.coe_mul, coe_sum]; rfl

theorem pay10_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay10 (k0_pay9 a b c)) (fun _ i j => (∑ d : Fin 160, q 0 0 i d * k 0 0 d j) * s 0 0 j) := R3.of fun x y z => by
  obtain rfl : x = 0 := Subsingleton.elim _ _
  pointwise [k0_pay10, k0_pay9]
  simp only [ha.at, hb.at, hc.at, ← EReal.coe_mul, coe_sum]; rfl

theorem pay11_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay11 a b c) (fun _ i j => (∑ d : Fin 160, q 0 0 i d * k 0 0 d j) * s 0 0 j) := R3.of fun x y z => by
  obtain rfl : x = 0 := Subsingleton.elim _ _
  pointwise [k0_pay11]
  simp only [ha.at, hb.at, hc.at, ← EReal.coe_mul, coe_sum]; rfl

theorem pay12_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay12 a b c) (fun _ i j => (∑ d : Fin 160, q 0 0 i d * k 0 0 d j) * s 0 0 j) := R3.of fun x y z => by
  obtain rfl : x = 0 := Subsingleton.elim _ _
  pointwise [k0_pay12]
  simp only [ha.at, hb.at, hc.at, ← EReal.coe_mul, coe_sum]; rfl

theorem pay13_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay13 a b c) (fun _ i j => (∑ d : Fin 160, q 0 0 i d * k 0 0 d j) * s 0 0 j) := R3.of fun x y z => by
  obtain rfl : x = 0 := Subsingleton.elim _ _
  pointwise [k0_pay13]
  simp only [ha.at, hb.at, hc.at, ← EReal.coe_mul, coe_sum]; rfl

theorem pay14_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay14 a b c) (fun _ i j => (∑ d : Fin 160, q 0 0 i d * k 0 0 d j) * s 0 0 j) := R3.of fun x y z => by
  obtain rfl : x = 0 := Subsingleton.elim _ _
  pointwise [k0_pay14]
  simp only [ha.at, hb.at, hc.at, ← EReal.coe_mul, coe_sum]; rfl

theorem pay15_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay15 a b c) (fun _ i j => (∑ d : Fin 160, q 0 0 i d * k 0 0 d j) * s 0 0 j) := R3.of fun x y z => by
  obtain rfl : x = 0 := Subsingleton.elim _ _
  pointwise [k0_pay15]
  simp only [ha.at, hb.at, hc.at, ← EReal.coe_mul, coe_sum]; rfl

theorem pay16_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay16 a b c) (fun _ i j => (∑ d : Fin 160, q 0 0 i d * k 0 0 d j) * s 0 0 j) := R3.of fun x y z => by
  obtain rfl : x = 0 := Subsingleton.elim _ _
  pointwise [k0_pay16]
  simp only [ha.at, hb.at, hc.at, ← EReal.coe_mul, coe_sum]; rfl

theorem pay18_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay18 (k0_pay17 a) b c) (fun _ i j => (∑ d : Fin 160, q 0 0 i d * k 0 0 d j) * s 0 0 j) := R3.of fun x y z => by
  obtain rfl : x = 0 := Subsingleton.elim _ _
  pointwise [k0_pay18, k0_pay17]
  simp only [ha.at, hb.at, hc.at, ← EReal.coe_mul, coe_sum]; rfl

theorem pay19_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay19 a b c) (fun _ i j => (∑ d : Fin 160, q 0 0 i d * k 0 0 d j) * s 0 0 j) := R3.of fun x y z => by
  obtain rfl : x = 0 := Subsingleton.elim _ _
  pointwise [k0_pay19]
  simp only [ha.at, hb.at, hc.at, ← EReal.coe_mul, coe_sum]; rfl

theorem pay22_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay22 (k0_pay20 a) (k0_pay21 b) c) (fun _ i j => (∑ d : Fin 160, q 0 0 i d * k 0 0 d j) * s 0 0 j) := R3.of fun x y z => by
  obtain rfl : x = 0 := Subsingleton.elim _ _
  pointwise [k0_pay22, k0_pay20, k0_pay21]
  simp only [ha.at, hb.at, hc.at, ← EReal.coe_mul, coe_sum]; rfl

theorem pay23_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay23 a b c) (fun _ i j => (∑ d : Fin 160, q 0 0 i d * k 0 0 d j) * s 0 0 j) := R3.of fun x y z => by
  obtain rfl : x = 0 := Subsingleton.elim _ _
  pointwise [k0_pay23]
  simp only [ha.at, hb.at, hc.at, ← EReal.coe_mul, coe_sum]; rfl

theorem pay25_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay25 (k0_pay24 a b) c) (fun _ i j => (∑ d : Fin 160, q 0 0 i d * k 0 0 d j) * s 0 0 j) := R3.of fun x y z => by
  obtain rfl : x = 0 := Subsingleton.elim _ _
  pointwise [k0_pay25, k0_pay24]
  simp only [ha.at, hb.at, hc.at, ← EReal.coe_mul, coe_sum]; rfl

theorem pay26_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay26 a b c) (fun _ i j => (∑ d : Fin 160, q 0 0 i d * k 0 0 d j) * s 0 0 j) := R3.of fun x y z => by
  obtain rfl : x = 0 := Subsingleton.elim _ _
  pointwise [k0_pay26]
  simp only [ha.at, hb.at, hc.at, ← EReal.coe_mul, coe_sum]; rfl

theorem pay67_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay67 (k0_pay27 a b) (k0_pay28 c)) (fun _ i j => (∑ d : Fin 160, q 0 0 i d * k 0 0 d j) * s 0 0 j) := R3.of fun x y z => by
  obtain rfl : x = 0 := Subsingleton.elim _ _
  pointwise [k0_pay67, k0_pay27, k0_pay28]
  simp only [ha.at, hb.at, hc.at, ← EReal.coe_mul, coe_sum]; rfl

theorem pay68_R {a : Vec Ideal S1x1x128x160 .fp8e4m3} {b : Vec Ideal S1x1x160x256 .fp8e4m3} {c : Vec Ideal S1x1x256 .f32} {q k s}
    (ha : R4 a q) (hb : R4 b k) (hc : R3 c s) : R3 (k0_pay68 a b c) (fun _ i j => (∑ d : Fin 160, q 0 0 i d * k 0 0 d j) * s 0 0 j) := R3.of fun x y z => by
  obtain rfl : x = 0 := Subsingleton.elim _ _
  pointwise [k0_pay68]
  simp only [ha.at, hb.at, hc.at, ← EReal.coe_mul, coe_sum]; rfl

theorem pay58_R {a : Vec Ideal S1x1x256x160 .fp8e4m3} {b : Vec Ideal S1x128x160 .f32} {c : Vec Ideal S1x128x256 .bf16} {v o p}
    (ha : E4 a v) (hb : E3 b o) (hc : E3 c p) : E3 (k0_pay58 a b c) (fun _ i d => o 0 i d + ∑ j : Fin 256, p 0 i j * v 0 0 j d) := E3.of fun x y z => by
  obtain rfl : x = 0 := Subsingleton.elim _ _
  pointwise [k0_pay58]
  simp only [ha.at, hb.at, hc.at]; rfl

theorem pay60_R {a : Vec Ideal S1x1x256x160 .fp8e4m3} {b : Vec Ideal S1x128x160 .f32} {c : Vec Ideal S1x128x256 .bf16} {v o p}
    (ha : E4 a v) (hb : E3 b o) (hc : E3 c p) : E3 (k0_pay60 (k0_pay59 a b c)) (fun _ i d => o 0 i d + ∑ j : Fin 256, p 0 i j * v 0 0 j d) := E3.of fun x y z => by
  obtain rfl : x = 0 := Subsingleton.elim _ _
  pointwise [k0_pay60, k0_pay59]
  simp only [ha.at, hb.at, hc.at]; rfl

theorem pay61_R {a : Vec Ideal S1x1x256x160 .fp8e4m3} {b : Vec Ideal S1x128x160 .f32} {c : Vec Ideal S1x128x256 .bf16} {v o p}
    (ha : E4 a v) (hb : E3 b o) (hc : E3 c p) : E3 (k0_pay61 a b c) (fun _ i d => o 0 i d + ∑ j : Fin 256, p 0 i j * v 0 0 j d) := E3.of fun x y z => by
  obtain rfl : x = 0 := Subsingleton.elim _ _
  pointwise [k0_pay61]
  simp only [ha.at, hb.at, hc.at]; rfl

theorem pay62_R {a : Vec Ideal S1x1x256x160 .fp8e4m3} {b : Vec Ideal S1x128x160 .f32} {c : Vec Ideal S1x128x256 .bf16} {v o p}
    (ha : E4 a v) (hb : E3 b o) (hc : E3 c p) : E3 (k0_pay62 a b c) (fun _ i d => o 0 i d + ∑ j : Fin 256, p 0 i j * v 0 0 j d) := E3.of fun x y z => by
  obtain rfl : x = 0 := Subsingleton.elim _ _
  pointwise [k0_pay62]
  simp only [ha.at, hb.at, hc.at]; rfl

theorem pay63_R {a : Vec Ideal S1x1x256x160 .fp8e4m3} {b : Vec Ideal S1x128x160 .f32} {c : Vec Ideal S1x128x256 .bf16} {v o p}
    (ha : E4 a v) (hb : E3 b o) (hc : E3 c p) : E3 (k0_pay63 a b c) (fun _ i d => o 0 i d + ∑ j : Fin 256, p 0 i j * v 0 0 j d) := E3.of fun x y z => by
  obtain rfl : x = 0 := Subsingleton.elim _ _
  pointwise [k0_pay63]
  simp only [ha.at, hb.at, hc.at]; rfl

theorem pay64_R {a : Vec Ideal S1x1x256x160 .fp8e4m3} {b : Vec Ideal S1x128x160 .f32} {c : Vec Ideal S1x128x256 .bf16} {v o p}
    (ha : E4 a v) (hb : E3 b o) (hc : E3 c p) : E3 (k0_pay64 a b c) (fun _ i d => o 0 i d + ∑ j : Fin 256, p 0 i j * v 0 0 j d) := E3.of fun x y z => by
  obtain rfl : x = 0 := Subsingleton.elim _ _
  pointwise [k0_pay64]
  simp only [ha.at, hb.at, hc.at]; rfl

theorem pay73_R {a : Vec Ideal S1x1x256x160 .fp8e4m3} {b : Vec Ideal S1x128x160 .f32} {c : Vec Ideal S1x128x256 .bf16} {v o p}
    (ha : E4 a v) (hb : E3 b o) (hc : E3 c p) : E3 (k0_pay73 a b c) (fun _ i d => o 0 i d + ∑ j : Fin 256, p 0 i j * v 0 0 j d) := E3.of fun x y z => by
  obtain rfl : x = 0 := Subsingleton.elim _ _
  pointwise [k0_pay73]
  simp only [ha.at, hb.at, hc.at]; rfl

theorem pay74_R {a : Vec Ideal S1x1x256x160 .fp8e4m3} {b : Vec Ideal S1x128x160 .f32} {c : Vec Ideal S1x128x256 .bf16} {v o p}
    (ha : E4 a v) (hb : E3 b o) (hc : E3 c p) : E3 (k0_pay74 a b c) (fun _ i d => o 0 i d + ∑ j : Fin 256, p 0 i j * v 0 0 j d) := E3.of fun x y z => by
  obtain rfl : x = 0 := Subsingleton.elim _ _
  pointwise [k0_pay74]
  simp only [ha.at, hb.at, hc.at]; rfl

theorem pay75_R {a : Vec Ideal S1x128x160 .f32} {o} (ha : E3 a o) : E3 (k0_pay75 a) (fun _ i d => o 0 i d) := E3.of fun x y z => by
  obtain rfl : x = 0 := Subsingleton.elim _ _
  pointwise [k0_pay75]
  simp only [ha.at]; rfl

theorem pay76_R {a : Vec Ideal S1x128x160 .f32} {o} (ha : E3 a o) : E3 (k0_pay76 a) (fun _ i d => o 0 i d) := E3.of fun x y z => by
  obtain rfl : x = 0 := Subsingleton.elim _ _
  pointwise [k0_pay76]
  simp only [ha.at]; rfl

theorem pay77_R {a : Vec Ideal S1x128x160 .f32} {o} (ha : E3 a o) : E3 (k0_pay77 a) (fun _ i d => o 0 i d) := E3.of fun x y z => by
  obtain rfl : x = 0 := Subsingleton.elim _ _
  pointwise [k0_pay77]
  simp only [ha.at]; rfl

theorem pay78_R {a : Vec Ideal S1x128x160 .f32} {o} (ha : E3 a o) : E3 (k0_pay78 a) (fun _ i d => o 0 i d) := E3.of fun x y z => by
  obtain rfl : x = 0 := Subsingleton.elim _ _
  pointwise [k0_pay78]
  simp only [ha.at]; rfl

theorem pay79_R {a : Vec Ideal S1x128x160 .f32} {o} (ha : E3 a o) : E3 (k0_pay79 a) (fun _ i d => o 0 i d) := E3.of fun x y z => by
  obtain rfl : x = 0 := Subsingleton.elim _ _
  pointwise [k0_pay79]
  simp only [ha.at]; rfl

theorem pay80_R {a : Vec Ideal S1x128x160 .f32} {o} (ha : E3 a o) : E3 (k0_pay80 a) (fun _ i d => o 0 i d) := E3.of fun x y z => by
  obtain rfl : x = 0 := Subsingleton.elim _ _
  pointwise [k0_pay80]
  simp only [ha.at]; rfl

theorem pay1_R {a : Vec Ideal S1x128x160 .f32} {o} (ha : E3 a o) : E3 (k0_pay1 (k0_pay81 a)) (fun _ i d => o 0 i d) := E3.of fun x y z => by
  obtain rfl : x = 0 := Subsingleton.elim _ _
  pointwise [k0_pay1, k0_pay81]
  simp only [ha.at]; rfl

theorem pay2_R {a : Vec Ideal S1x128x160 .f32} {o} (ha : E3 a o) : E3 (k0_pay2 a) (fun _ i d => o 0 i d) := E3.of fun x y z => by
  obtain rfl : x = 0 := Subsingleton.elim _ _
  pointwise [k0_pay2]
  simp only [ha.at]; rfl

theorem pay72_R : E3 (k0_pay72 (F := Ideal)) (fun _ _ _ => 0) := E3.of fun x y z => by
  pointwise [k0_pay72]

end Cert.KernelIdeal.Val
-- ==== Proof.Pay3.lean ====
/- What the payloads compute, at real numbers. -/
module

public import proofs.«01_k».proof.Proof.Pay1

@[expose] public section

set_option maxRecDepth 16384

noncomputable section

namespace Cert.KernelIdeal.Val

open Cert.KernelIdeal Cert.KernelIdeal.Gen
open Idealize.ShloMosaic

/-- Every element is a real number. -/
def AllReal {s : Shape} (X : s.Idx → EReal) : Prop := ∀ y, ∃ x : ℝ, X y = (x : EReal)

theorem neg_inf : Ideal.ofBits FTy.f32 4286578688#32 = ⊥ := by simp [Ideal.ofBits, Ideal.ieee]

theorem coe_max (x y : ℝ) : ((max x y : ℝ) : EReal) = max (x : EReal) (y : EReal) := EReal.coe_strictMono.monotone.map_max

theorem fold_real {n : ℕ} (f : Fin (n + 1) → EReal) (h : ∀ k, ∃ x : ℝ, f k = (x : EReal)) :
    ∃ x : ℝ, Finset.univ.fold max ⊥ f = (x : EReal) := by
  induction n with
  | zero =>
    obtain ⟨x, hx⟩ := h 0
    refine ⟨x, ?_⟩
    rw [show (Finset.univ : Finset (Fin (0 + 1))) = {0} from rfl, Finset.fold_singleton, hx]; simp
  | succ n ih =>
    obtain ⟨x, hx⟩ := h 0
    obtain ⟨y, hy⟩ := ih (fun k => f k.succ) (fun k => h _)
    refine ⟨max x y, ?_⟩
    rw [Fin.univ_succ, Finset.fold_cons, Finset.fold_map, hx]
    refine (congrArg (max _) hy).trans ?_
    exact (coe_max x y).symm

/-- The largest of a row's 128 partial maxima. -/
def mx (v : FVec Ideal S96x128 .f32) (r : ℕ) : ℝ :=
  if h : r < 96 then (Finset.univ.fold max (⊥ : EReal) (fun x : Fin 128 => v (ix2 ⟨r, h⟩ x))).toReal else 0

theorem mx_eq {v : FVec Ideal S96x128 .f32} (h : AllReal v) (r : Fin 96) :
    Finset.univ.fold max (Ideal.ofBits FTy.f32 4286578688#32) (fun x : Fin 128 => v (ix2 r x)) = ((mx v r : ℝ) : EReal) := by
  obtain ⟨x, hx⟩ := fold_real (fun x : Fin 128 => v (ix2 r x)) (fun k => h _)
  rw [neg_inf, mx, dif_pos r.isLt]
  refine hx.trans ?_
  rw [show (⟨(r : ℕ), r.isLt⟩ : Fin 96) = r from rfl]
  exact congrArg _ ((congrArg EReal.toReal hx).trans (EReal.toReal_coe x)).symm

theorem pay29_bot (y) : k0_pay29 (F := Ideal) y = ⊥ := by
  rw [eq_ix2 y]
  pointwise [k0_pay29]
  exact neg_inf

theorem pay30_real {a : FVec Ideal S96x128 .f32} {v : Vec Ideal S1x96x256 .f32} (ha : (∀ y, a y = ⊥) ∨ AllReal a) (hv : AllReal v) :
    AllReal (k0_pay30 a v) := fun y => by
  rw [eq_ix2 y]
  generalize y 0 = y0; generalize y 1 = y1
  change Fin 96 at y0; change Fin 128 at y1
  pointwise [k0_pay30]
  obtain ⟨p, hp⟩ := hv (ix3 0 y0 ⟨(y1 : ℕ), by omega⟩)
  obtain ⟨q, hq⟩ := hv (ix3 0 y0 ⟨128 + (y1 : ℕ), by omega⟩)
  rcases ha with ha | ha
  · exact ⟨max p q, (congrArg₂ max (ha _) (congrArg₂ max hp hq)).trans (by rw [coe_max]; simp)⟩
  · obtain ⟨m, hm⟩ := ha (ix2 y0 y1)
    exact ⟨max m (max p q), (congrArg₂ max hm (congrArg₂ max hp hq)).trans (by rw [coe_max, coe_max])⟩

theorem pay31_R : R2 (k0_pay31 (F := Ideal)) (fun _ _ => 0) := R2.of fun x y => by
  pointwise [k0_pay31]
  exact EReal.coe_zero.symm

theorem pay32_R {v60 : FVec Ideal S96x128 .f32} {v : Vec Ideal S1x96x256 .f32} {e} (h60 : AllReal v60) (h : R3 v e) :
    R2 (k0_pay32 v60 v) (fun r j => Real.rpow 2 (e 0 r j - mx v60 r)) := R2.of fun x y => by
  pointwise [k0_pay32]
  rw [h.at]
  refine (congrArg (fun z => Ideal.exp2 (_ - z)) (mx_eq h60 x)).trans ?_
  rw [← EReal.coe_sub]; rfl

theorem pay33_R {v60 : FVec Ideal S96x128 .f32} {v : Vec Ideal S1x96x256 .f32} {e} (h60 : AllReal v60) (h : R3 v e) :
    R3 (k0_pay33 v60 v) (fun _ r j => Real.rpow 2 (e 0 r j - mx v60 r)) := R3.of fun x y z => by
  obtain rfl : x = 0 := Subsingleton.elim _ _
  pointwise [k0_pay33]
  exact (pay32_R h60 h).at y z

theorem pay34_R {v60 a : FVec Ideal S96x128 .f32} {v : Vec Ideal S1x96x256 .f32} {e l} (h60 : AllReal v60) (ha : R2 a l) (h : R3 v e) :
    R2 (k0_pay34 v60 a v) (fun r j => l r j + (Real.rpow 2 (e 0 r j - mx v60 r) + Real.rpow 2 (e 0 r (128 + j) - mx v60 r))) :=
  R2.of fun x y => by
  pointwise [k0_pay34]
  rw [ha.at, (pay32_R h60 h).at, (pay32_R h60 h).at, EReal.coe_add, EReal.coe_add]

theorem pay35_R {v65 : FVec Ideal S96x128 .f32} {l} (h : R2 v65 l) (h0 : ∀ r, r < 96 → ∑ x : Fin 128, l r x ≠ 0) :
    R2 (k0_pay35 v65) (fun r _ => 1 / ∑ x : Fin 128, l r x) := R2.of fun x y => by
  pointwise [k0_pay35]
  simp only [h.at, coe_sum]
  exact (Ideal.div_coe (h0 _ x.isLt) 1).trans (one_mul _)

end Cert.KernelIdeal.Val
-- ==== Proof.Pay4.lean ====
/- What the payloads compute, given the numbers that their operands hold. -/
module

public import proofs.«01_k».proof.Proof.Pay1

@[expose] public section

set_option maxRecDepth 16384

noncomputable section

namespace Cert.KernelIdeal.Val

open Cert.KernelIdeal Cert.KernelIdeal.Gen
open Idealize.ShloMosaic

theorem pay38_at : ∀ (x : Fin 8) (y : Fin 256), k0_pay38 k0_pay36 k0_pay37 (ix2 x y) = BitVec.ofNat 32 (y / 16) := by
  intro x y
  pointwise [k0_pay38, k0_pay36, k0_pay37]
  revert y
  decide +kernel
theorem pay40_at (v74 v93) (x : Fin 8) (y : Fin 256) : k0_pay40 v74 v93 (ix2 x y) = IntOp.cmpi CmpIPredicate.eq (k0_pay38 v74 v93 (ix2 x y)) 10#32 := by
  pointwise [k0_pay40]

theorem chain_at {v71 : FVec Ideal S96x256 .f32} {u} (h : R2 v71 u) (x : Fin 8) (y : Fin 256) :
    Scalar.select (IntOp.cmpi CmpIPredicate.eq (k0_pay38 k0_pay36 k0_pay37 (ix2 x y)) 11#32) (v71 (ix2 ⟨88 + x, by omega⟩ y))
      (Scalar.select (k0_pay40 k0_pay36 k0_pay37 (ix2 x y)) (k0_pay41 v71 (ix2 x y)) (k0_pay39 v71 k0_pay36 k0_pay37 (ix2 x y)))
    = (((if (y : ℕ) / 16 < 12 then u (y / 16 * 8 + x) y else 0 : ℝ)) : EReal) := by
  rw [pay40_at]
  pointwise [k0_pay39, k0_pay41]
  rw [pay38_at]
  simp only [h.at]
  obtain ⟨g, hg⟩ : ∃ g, (y : ℕ) / 16 = g := ⟨_, rfl⟩
  have : g < 16 := by omega
  rw [hg]
  interval_cases g <;> first | rfl | (rw [Nat.zero_mul, Nat.zero_add]; rfl)
theorem pay42_R {v71 : FVec Ideal S96x256 .f32} {v146 : Vec Ideal S64x256 .f32} {u w} (h : R2 v71 u) (hw : R2 v146 w) :
   R2 (k0_pay42 v71 (k0_pay38 k0_pay36 k0_pay37) (k0_pay39 v71 k0_pay36 k0_pay37) (k0_pay40 k0_pay36 k0_pay37) (k0_pay41 v71) v146)
   (fun r l => w r l * (if l / 16 < 12 then u (l / 16 * 8 + r % 8) l else 0)) := R2.of fun x y => by
  pointwise [k0_pay42]
  rw [hw.at, EReal.coe_mul]
  refine congrArg (_ * ·) ?_
  have hx := x.isLt
  split_ifs <;> refine (chain_at h _ y).trans ?_ <;> simp only [] <;> (congr 4; omega)

section
variable {v71 : FVec Ideal S96x256 .f32} {v146 : Vec Ideal S64x256 .f32} {u w : ℕ → ℕ → ℝ}

theorem pay46_R (h : R2 v71 u) (hw : R2 v146 w) :
    R3 (k0_pay46 v71 (k0_pay38 k0_pay36 k0_pay37) (k0_pay39 v71 k0_pay36 k0_pay37) (k0_pay40 k0_pay36 k0_pay37) (k0_pay41 v71) v146)
      (fun _ r l => w r l * (if l / 16 < 12 then u (l / 16 * 8 + r % 8) l else 0)) := R3.of fun x y z => by
  obtain rfl : x = 0 := Subsingleton.elim _ _
  pointwise [k0_pay46]
  exact (pay42_R h hw).at y z

theorem pay70_R (h : R2 v71 u) (hw : R2 v146 w) :
    R3 (k0_pay70 (k0_pay44 v71 (k0_pay38 k0_pay36 k0_pay37) (k0_pay39 v71 k0_pay36 k0_pay37) (k0_pay40 k0_pay36 k0_pay37) (k0_pay41 v71) v146))
      (fun _ _ _ => 0) := R3.of fun x y z => by
  obtain rfl : x = 0 := Subsingleton.elim _ _
  pointwise [k0_pay70, k0_pay44, k0_pay43]
  rw [(pay42_R h hw).at y z, ← EReal.coe_sub, sub_self]

theorem pay71_R (h : R2 v71 u) (hw : R2 v146 w) :
    R3 (k0_pay71 (k0_pay45 v71 (k0_pay38 k0_pay36 k0_pay37) (k0_pay39 v71 k0_pay36 k0_pay37) (k0_pay40 k0_pay36 k0_pay37) (k0_pay41 v71) v146))
      (fun _ r l => if l % 2 = 1 then 0 else w r l * (if l / 16 < 12 then u (l / 16 * 8 + r % 8) l else 0)) := R3.of fun x y z => by
  obtain rfl : x = 0 := Subsingleton.elim _ _
  pointwise [k0_pay71, k0_pay45, k0_pay43]
  simp only [(pay42_R h hw).at y z, ← EReal.coe_sub, sub_self]
  refine (congrArg (fun c => Scalar.select c _ _) (odd_bit z)).trans ?_
  by_cases h : z.val % 2 = 1
  · rw [if_pos h, if_pos h]; rfl
  · rw [if_neg h, if_neg h]; rfl
end

theorem pay56_R {a0 a1 a2 a3 a4 a5 a6 a7 : Vec Ideal S1x1x256 .f32} {s : ℕ → ℕ → EReal}
    (h0 : E3 a0 fun _ _ j => s 0 j) (h1 : E3 a1 fun _ _ j => s 1 j) (h2 : E3 a2 fun _ _ j => s 2 j) (h3 : E3 a3 fun _ _ j => s 3 j)
    (h4 : E3 a4 fun _ _ j => s 4 j) (h5 : E3 a5 fun _ _ j => s 5 j) (h6 : E3 a6 fun _ _ j => s 6 j) (h7 : E3 a7 fun _ _ j => s 7 j) :
    E2 (k0_pay56 (k0_pay49 a0) (k0_pay50 a1) (k0_pay51 a2) (k0_pay52 a3) (k0_pay53 a4) (k0_pay54 a5) (k0_pay55 a6) a7)
      (fun r j => s (r / 8) j) := E2.of fun x y => by
  pointwise [k0_pay56, k0_pay49, k0_pay50, k0_pay51, k0_pay52, k0_pay53, k0_pay54, k0_pay55]
  have hx := x.isLt
  simp only [h0.at, h1.at, h2.at, h3.at, h4.at, h5.at, h6.at, h7.at]
  split_ifs <;> (congr 1; omega)

theorem pay57_R : R2 (k0_pay57 (F := Ideal)) (fun _ _ => 0) := R2.of fun x y => by
  pointwise [k0_pay57]
  rfl

/-- One row group's mix of probabilities, as the two products lay it out. -/
def mix (x a b : ℕ → ℕ → ℕ → ℝ) (s : ℕ → ℕ → EReal) (r z : ℕ) : EReal :=
  ((∑ t : Fin 96, (a 0 r (2 * t + 1) + a 0 (64 + r) (2 * t + 1) + b 0 r (2 * t + 1)) * x 0 t z : ℝ) : EReal) * s r z

theorem mix_sum (f : ℕ → ℝ) (x : ℕ → ℕ → ℕ → ℝ) (z : ℕ) :
    (∑ t : Fin 192, f t * if (t : ℕ) % 2 = 0 then 0 else x 0 (t / 2 / 8 * 8 + t / 2 % 8) z) = ∑ t : Fin 96, f (2 * t + 1) * x 0 t z := by
  refine (sum_pairs 96 (fun t => f t * if t % 2 = 0 then 0 else x 0 (t / 2 / 8 * 8 + t / 2 % 8) z)).trans (Finset.sum_congr rfl fun t _ => ?_)
  have e : (2 * (t : ℕ) + 1) / 2 / 8 * 8 + (2 * (t : ℕ) + 1) / 2 % 8 = t := by omega
  simp only [show (2 * (t : ℕ)) % 2 = 0 by omega, show (2 * (t : ℕ) + 1) % 2 = 1 by omega, e]
  simp

section
variable {v100 : FVec Ideal S64x256 .f32} {x0 x1 : Vec Ideal S1x96x256 .f32} {a0 a1 : Vec Ideal S1x128x256 .bf16} {b0 b1 : Vec Ideal S1x64x256 .bf16}
  {s : ℕ → ℕ → EReal} {X0 X1 A0 A1 B0 B1 : ℕ → ℕ → ℕ → ℝ}

theorem mix_eq (x a b : ℕ → ℕ → ℕ → ℝ) (r z : ℕ) :
   ((∑ t : Fin 192, a 0 r t * if (t : ℕ) % 2 = 0 then 0 else x 0 (t / 2 / 8 * 8 + t / 2 % 8) z) + 0
      + ((∑ t : Fin 192, a 0 (64 + r) t * if (t : ℕ) % 2 = 0 then 0 else x 0 (t / 2 / 8 * 8 + t / 2 % 8) z) + 0)
      + ((∑ t : Fin 192, b 0 r t * if (t : ℕ) % 2 = 0 then 0 else x 0 (t / 2 / 8 * 8 + t / 2 % 8) z) + 0))
    = ∑ t : Fin 96, (a 0 r (2 * t + 1) + a 0 (64 + r) (2 * t + 1) + b 0 r (2 * t + 1)) * x 0 t z := by
  rw [mix_sum (a 0 r), mix_sum (a 0 (64 + r)), mix_sum (b 0 r), add_zero, add_zero, add_zero, ← Finset.sum_add_distrib, ← Finset.sum_add_distrib]
  exact Finset.sum_congr rfl fun t _ => by ring

theorem pay47_R (h100 : E2 v100 s) (hx : R3 x0 X0) (ha : R3 a0 A0) (hb : R3 b0 B0) :
    E3 (k0_pay47 v100 k0_pay57 x0 a0 b0) (fun m r z => mix X0 A0 B0 s (m * 8 + r) z) := E3.of fun m r z => by
  pointwise [k0_pay47]
  simp only [h100.at, hx.at, ha.at, hb.at, pay57_R.at, ← EReal.coe_mul, ← EReal.coe_sub, sub_self, mul_zero, Finset.sum_const_zero, coe_ite, coe_sum, ← EReal.coe_add]
  exact congrArg (fun e : ℝ => (e : EReal) * s (m * 8 + r) z) (mix_eq X0 A0 B0 (m * 8 + r) z)

theorem pay48_R (h100 : E2 v100 s) (hx : R3 x0 X0) (ha : R3 a0 A0) (hb : R3 b0 B0) (hx1 : R3 x1 X1) (ha1 : R3 a1 A1) (hb1 : R3 b1 B1) :
    E3 (k0_pay48 v100 k0_pay57 (k0_pay47 v100 k0_pay57 x0 a0 b0) x1 a1 b1)
      (fun m y z => if y < 8 then mix X0 A0 B0 s (m * 8 + y) z else mix X1 A1 B1 s (m * 8 + (y - 8)) z) := E3.of fun m y z => by
  pointwise [k0_pay48]
  by_cases h : (y : ℕ) < 8
  · rw [dif_pos h, if_pos h]
    exact (pay47_R h100 hx ha hb).at m ⟨y, h⟩ z
  · rw [dif_neg h, if_neg h]
    simp only [h100.at, hx1.at, ha1.at, hb1.at, pay57_R.at, ← EReal.coe_mul, ← EReal.coe_sub, sub_self, mul_zero, Finset.sum_const_zero, coe_ite, coe_sum, ← EReal.coe_add]
    exact congrArg (fun e : ℝ => (e : EReal) * s (m * 8 + (y - 8)) z) (mix_eq X1 A1 B1 (m * 8 + (y - 8)) z)
end

end Cert.KernelIdeal.Val
-- ==== Proof.Mix.lean ====
/- The loops that compute the mixed scores: each keeps what it has stored equal to the block's functions. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Claim
public import proofs.«01_k».proof.Proof.Pay2
public import proofs.«01_k».proof.Proof.Pay3
public import proofs.«01_k».proof.Proof.Pay4

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

def val_k0_t1 (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (D : Blk) (X5 : BufTy.Contents (Elt Ideal) arg5.view.ty) (X8 : BufTy.Contents (Elt Ideal) arg8.view.ty)
    (h5 : R4 (arg5.view.read (Elt Ideal) X5) (fun _ g _ l => D.qs g l)) (h8 : R2 (arg8.view.read (Elt Ideal) X8) D.w1) :
    Idealize.ShloMosaic.LoopInv (M := MT nD τ sig Unit (Elt Ideal) ℕ (UR sig nD τ) ℕ) Idealize.ShloMosaic.frame
      (wpE defs₀ Variants.none (c : Thread nD τ) none) Set.univ k0_t1_loop.lb k0_t1_loop.ub k0_t1_loop.st k0_t1_ok ()
      (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) where
  inv := fun k acc => iprop((arg5.view.loc (c : Thread nD τ) ↦[arg5.view.set]{fullShare} X5) ∗ (arg8.view.loc (c : Thread nD τ) ↦[arg8.view.set]{fullShare} X8) ∗ (∃ X, (arg15.view.loc (c : Thread nD τ) ↦[arg15.view.set]{fullShare} X) ∗ ⌜On3 (arg15.view.read (Elt Ideal) X) (fun g _ _ => g < k) D.W1⌝))
  step := fun k acc => by
    unfold k0_t1_body
    iintro ⟨H5, H8, ⟨%X15, H15, %h15⟩⟩
    sl_exec
    sl_step
    isplitl [H5]; · iexact H5
    isplitl [H8]; · iexact H8
    iexists _
    isplitl [H15]
    · iexact H15
    · ipureintro
      sl_unfold_run_names
      have e58 := R2.loadF (o0 := 0) (o1 := 0) (s0 := 96) (s1 := 256) (off := ![0, 0]) (inb := inb_S96x256_S96x256_0_0) h8 rfl
      have e61 := R4.loadF (inb := k0_off1_inb k) (s0 := 1) (s1 := 1) (s2 := 1) (s3 := 256) h5 (k0_off1_eq k)
      refine On3.storeB (pay66_R e58 e61) (k0_off4_eq ..) ?_ (On3.storeB (pay65_R e58 e61) (k0_off3_eq ..) ?_
        (On3.storeB (pay7_R e58 e61) (k0_off2_eq ..) ?_ (h15.mono ?_)))
      · intro x y z hx hy hz _
        obtain rfl : x = 0 := by omega
        simp only [Blk.W1, Nat.zero_add, Nat.add_zero, if_neg (show ¬ 192 + y < 96 by omega), if_neg (show ¬ 192 + y < 192 by omega), Nat.add_sub_cancel_left]
      · intro x y z hx hy hz _
        simp only [Blk.W1, if_neg (show ¬ 96 + y < 96 by omega), if_pos (show 96 + y < 192 by omega)]
      · intro x y z hx hy hz _
        obtain rfl : x = 0 := by omega
        simp only [Blk.W1, Nat.zero_add, Nat.add_zero, if_pos hy]
      · intro x y z hx hy hz h
        exact ⟨by omega, rfl⟩

/-- One block of columns of the mixed scores, row group by row group. -/
def val_k0_t3 (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (k0_t2 : Fin k0_t2_loop.trips) (D : Blk) (X12 : BufTy.Contents (Elt Ideal) arg12.view.ty) (X15 : BufTy.Contents (Elt Ideal) arg15.view.ty)
    (h12 : R3 (arg12.view.read (Elt Ideal) X12) (fun h r j => D.S h r (256 * k0_t2 + j))) (h15 : R3 (arg15.view.read (Elt Ideal) X15) D.W1) :
    Idealize.ShloMosaic.LoopInv (M := MT nD τ sig Unit (Elt Ideal) ℕ (UR sig nD τ) ℕ) Idealize.ShloMosaic.frame
      (wpE defs₀ Variants.none (c : Thread nD τ) none) Set.univ k0_t3_loop.lb k0_t3_loop.ub k0_t3_loop.st k0_t3_ok ()
      (k0_t3_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t2) where
  inv := fun k acc => iprop((arg12.view.loc (c : Thread nD τ) ↦[arg12.view.set]{fullShare} X12) ∗ (arg15.view.loc (c : Thread nD τ) ↦[arg15.view.set]{fullShare} X15) ∗ (∃ X, (arg11.view.loc (c : Thread nD τ) ↦[arg11.view.set]{fullShare} X)
    ∗ ⌜On3 (arg11.view.read (Elt Ideal) X) (fun g _ j => j < 256 * k0_t2 ∨ (j < 256 * (k0_t2 + 1) ∧ g < k)) D.E⌝))
  step := fun k acc => by
    unfold k0_t3_body
    iintro ⟨H12, H15, ⟨%X11, H11, %h11⟩⟩
    sl_exec
    sl_step
    isplitl [H12]; · iexact H12
    isplitl [H15]; · iexact H15
    iexists _
    isplitl [H11]
    · iexact H11
    · ipureintro
      sl_unfold_run_names
      have hk : k.val < 16 := Nat.lt_of_lt_of_le k.isLt k0_t3_abs.2.1
      have e290 := R3.loadF (inb := k0_off37_inb k) (s0 := 16) (s1 := 8) (s2 := 256) h12 (k0_off37_eq k)
      have e307 := R3.loadB (inb := k0_off38_inb k) (s0 := 1) (s1 := 192) (s2 := 256) h15 (k0_off38_eq k)
      have e311 := R3.loadB (inb := k0_off39_inb k) (s0 := 1) (s1 := 96) (s2 := 256) h15 (k0_off39_eq k)
      refine On3.storeF (pay69_R e290 e307 e311) (k0_off40_eq ..) ?_ (h11.mono ?_)
      · intro x y z hx hy hz _
        obtain rfl : x = 0 := by omega
        refine Finset.sum_congr rfl fun t _ => ?_
        have ht := t.isLt
        have o : (2 * (t : ℕ) + 1) % 2 = 1 := by omega
        simp only [Blk.W1, Nat.zero_add, Nat.add_zero, if_pos hy, if_neg (show ¬ 96 + y < 96 by omega), if_pos (show 96 + y < 192 by omega),
          if_neg (show ¬ 192 + y < 96 by omega), if_neg (show ¬ 192 + y < 192 by omega), if_pos o, add_zero]
      · intro x y z hx hy hz h
        exact ⟨by omega, rfl⟩

/-- One block of columns: the scores of the sixteen heads, then their mixtures. -/
def val_k0_t2 (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (D : Blk) (X2 : BufTy.Contents (Elt Ideal) arg2.view.ty) (X3 : BufTy.Contents (Elt Ideal) arg3.view.ty) (X6 : BufTy.Contents (Elt Ideal) arg6.view.ty) (X15 : BufTy.Contents (Elt Ideal) arg15.view.ty)
    (h2 : R4 (arg2.view.read (Elt Ideal) X2) (fun _ h i d => D.q h i d)) (h3 : R4 (arg3.view.read (Elt Ideal) X3) (fun _ h d j => D.k h d j))
    (h6 : R3 (arg6.view.read (Elt Ideal) X6) (fun _ h j => D.ks h j)) (h15 : R3 (arg15.view.read (Elt Ideal) X15) D.W1) :
    Idealize.ShloMosaic.LoopInv (M := MT nD τ sig Unit (Elt Ideal) ℕ (UR sig nD τ) ℕ) Idealize.ShloMosaic.frame
      (wpE defs₀ Variants.none (c : Thread nD τ) none) Set.univ k0_t2_loop.lb k0_t2_loop.ub k0_t2_loop.st k0_t2_ok ()
      (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) where
  inv := fun k acc => iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg15.view.loc (c : Thread nD τ) ↦[arg15.view.set]{fullShare} X15) ∗ (∃ X, (arg12.view.loc (c : Thread nD τ) ↦[arg12.view.set]{fullShare} X))
    ∗ (∃ X, (arg11.view.loc (c : Thread nD τ) ↦[arg11.view.set]{fullShare} X) ∗ ⌜On3 (arg11.view.read (Elt Ideal) X) (fun g _ j => j < 256 * k) D.E⌝))
  step := fun k acc => by
    unfold k0_t2_body
    iintro ⟨H2, H3, H6, H15, ⟨%X12, H12⟩, ⟨%X11, H11, %h11⟩⟩
    sl_exec
    ihave ⟨%Y12, H12, %h12⟩ : (∃ X, (arg12.view.loc (c : Thread nD τ) ↦[arg12.view.set]{fullShare} X) ∗ ⌜R3 (arg12.view.read (Elt Ideal) X) (fun h r j => D.S h r (256 * k + j))⌝) $$ [H12]
    · iexists _
      isplitl [H12]
      · iexact H12
      · ipureintro
        sl_unfold_run_names
        have hk : k.val < 16 := Nat.lt_of_lt_of_le k.isLt k0_t2_abs.2.1
        have hit : ∀ o x y z : ℕ, x < 1 → y < 128 → z < 256 →
            (∑ d : Fin 160, D.q (o + 0) (0 + y) (0 + (d : ℕ)) * D.k (o + 0) (0 + (d : ℕ)) (256 * k + z)) * D.ks (o + 0) (256 * k + z)
              = D.S (o + x) (0 + y) (256 * k + (0 + z)) := by
          intro o x y z hx _ _
          obtain rfl : x = 0 := by omega
          simp only [Blk.S, Nat.zero_add, Nat.add_zero]
        refine On3.all (P := fun _ _ _ => True) ?_ fun _ _ _ _ _ _ => trivial
        refine (On3.storeF (pay68_R (R4.loadQ (o0 := 0) (o1 := 15) (o2 := 0) (o3 := 0) (s0 := 1) (s1 := 1) (s2 := 128) (s3 := 160) h2 rfl)
          (R4.loadQ (inb := k0_off35_inb k) (s0 := 1) (s1 := 1) (s2 := 160) (s3 := 256) h3 (k0_off35_eq k))
          (R3.loadF (inb := k0_off36_inb k) (s0 := 1) (s1 := 1) (s2 := 256) h6 (k0_off36_eq k))) rfl (fun x y z a b c _ => hit 15 x y z a b c)
          (On3.storeF (pay67_R (R4.loadQ (o0 := 0) (o1 := 14) (o2 := 0) (o3 := 0) (s0 := 1) (s1 := 1) (s2 := 128) (s3 := 160) h2 rfl)
          (R4.loadQ (inb := k0_off33_inb k) (s0 := 1) (s1 := 1) (s2 := 160) (s3 := 256) h3 (k0_off33_eq k))
          (R3.loadF (inb := k0_off34_inb k) (s0 := 1) (s1 := 1) (s2 := 256) h6 (k0_off34_eq k))) rfl (fun x y z a b c _ => hit 14 x y z a b c)
          (On3.storeF (pay26_R (R4.loadQ (o0 := 0) (o1 := 13) (o2 := 0) (o3 := 0) (s0 := 1) (s1 := 1) (s2 := 128) (s3 := 160) h2 rfl)
          (R4.loadQ (inb := k0_off31_inb k) (s0 := 1) (s1 := 1) (s2 := 160) (s3 := 256) h3 (k0_off31_eq k))
          (R3.loadF (inb := k0_off32_inb k) (s0 := 1) (s1 := 1) (s2 := 256) h6 (k0_off32_eq k))) rfl (fun x y z a b c _ => hit 13 x y z a b c)
          (On3.storeF (pay25_R (R4.loadQ (o0 := 0) (o1 := 12) (o2 := 0) (o3 := 0) (s0 := 1) (s1 := 1) (s2 := 128) (s3 := 160) h2 rfl)
          (R4.loadQ (inb := k0_off29_inb k) (s0 := 1) (s1 := 1) (s2 := 160) (s3 := 256) h3 (k0_off29_eq k))
          (R3.loadF (inb := k0_off30_inb k) (s0 := 1) (s1 := 1) (s2 := 256) h6 (k0_off30_eq k))) rfl (fun x y z a b c _ => hit 12 x y z a b c)
          (On3.storeF (pay23_R (R4.loadQ (o0 := 0) (o1 := 11) (o2 := 0) (o3 := 0) (s0 := 1) (s1 := 1) (s2 := 128) (s3 := 160) h2 rfl)
          (R4.loadQ (inb := k0_off27_inb k) (s0 := 1) (s1 := 1) (s2 := 160) (s3 := 256) h3 (k0_off27_eq k))
          (R3.loadF (inb := k0_off28_inb k) (s0 := 1) (s1 := 1) (s2 := 256) h6 (k0_off28_eq k))) rfl (fun x y z a b c _ => hit 11 x y z a b c)
          (On3.storeF (pay22_R (R4.loadQ (o0 := 0) (o1 := 10) (o2 := 0) (o3 := 0) (s0 := 1) (s1 := 1) (s2 := 128) (s3 := 160) h2 rfl)
          (R4.loadQ (inb := k0_off25_inb k) (s0 := 1) (s1 := 1) (s2 := 160) (s3 := 256) h3 (k0_off25_eq k))
          (R3.loadF (inb := k0_off26_inb k) (s0 := 1) (s1 := 1) (s2 := 256) h6 (k0_off26_eq k))) rfl (fun x y z a b c _ => hit 10 x y z a b c)
          (On3.storeF (pay19_R (R4.loadQ (o0 := 0) (o1 := 9) (o2 := 0) (o3 := 0) (s0 := 1) (s1 := 1) (s2 := 128) (s3 := 160) h2 rfl)
          (R4.loadQ (inb := k0_off23_inb k) (s0 := 1) (s1 := 1) (s2 := 160) (s3 := 256) h3 (k0_off23_eq k))
          (R3.loadF (inb := k0_off24_inb k) (s0 := 1) (s1 := 1) (s2 := 256) h6 (k0_off24_eq k))) rfl (fun x y z a b c _ => hit 9 x y z a b c)
          (On3.storeF (pay18_R (R4.loadQ (o0 := 0) (o1 := 8) (o2 := 0) (o3 := 0) (s0 := 1) (s1 := 1) (s2 := 128) (s3 := 160) h2 rfl)
          (R4.loadQ (inb := k0_off21_inb k) (s0 := 1) (s1 := 1) (s2 := 160) (s3 := 256) h3 (k0_off21_eq k))
          (R3.loadF (inb := k0_off22_inb k) (s0 := 1) (s1 := 1) (s2 := 256) h6 (k0_off22_eq k))) rfl (fun x y z a b c _ => hit 8 x y z a b c)
          (On3.storeF (pay16_R (R4.loadQ (o0 := 0) (o1 := 7) (o2 := 0) (o3 := 0) (s0 := 1) (s1 := 1) (s2 := 128) (s3 := 160) h2 rfl)
          (R4.loadQ (inb := k0_off19_inb k) (s0 := 1) (s1 := 1) (s2 := 160) (s3 := 256) h3 (k0_off19_eq k))
          (R3.loadF (inb := k0_off20_inb k) (s0 := 1) (s1 := 1) (s2 := 256) h6 (k0_off20_eq k))) rfl (fun x y z a b c _ => hit 7 x y z a b c)
          (On3.storeF (pay15_R (R4.loadQ (o0 := 0) (o1 := 6) (o2 := 0) (o3 := 0) (s0 := 1) (s1 := 1) (s2 := 128) (s3 := 160) h2 rfl)
          (R4.loadQ (inb := k0_off17_inb k) (s0 := 1) (s1 := 1) (s2 := 160) (s3 := 256) h3 (k0_off17_eq k))
          (R3.loadF (inb := k0_off18_inb k) (s0 := 1) (s1 := 1) (s2 := 256) h6 (k0_off18_eq k))) rfl (fun x y z a b c _ => hit 6 x y z a b c)
          (On3.storeF (pay14_R (R4.loadQ (o0 := 0) (o1 := 5) (o2 := 0) (o3 := 0) (s0 := 1) (s1 := 1) (s2 := 128) (s3 := 160) h2 rfl)
          (R4.loadQ (inb := k0_off15_inb k) (s0 := 1) (s1 := 1) (s2 := 160) (s3 := 256) h3 (k0_off15_eq k))
          (R3.loadF (inb := k0_off16_inb k) (s0 := 1) (s1 := 1) (s2 := 256) h6 (k0_off16_eq k))) rfl (fun x y z a b c _ => hit 5 x y z a b c)
          (On3.storeF (pay13_R (R4.loadQ (o0 := 0) (o1 := 4) (o2 := 0) (o3 := 0) (s0 := 1) (s1 := 1) (s2 := 128) (s3 := 160) h2 rfl)
          (R4.loadQ (inb := k0_off13_inb k) (s0 := 1) (s1 := 1) (s2 := 160) (s3 := 256) h3 (k0_off13_eq k))
          (R3.loadF (inb := k0_off14_inb k) (s0 := 1) (s1 := 1) (s2 := 256) h6 (k0_off14_eq k))) rfl (fun x y z a b c _ => hit 4 x y z a b c)
          (On3.storeF (pay12_R (R4.loadQ (o0 := 0) (o1 := 3) (o2 := 0) (o3 := 0) (s0 := 1) (s1 := 1) (s2 := 128) (s3 := 160) h2 rfl)
          (R4.loadQ (inb := k0_off11_inb k) (s0 := 1) (s1 := 1) (s2 := 160) (s3 := 256) h3 (k0_off11_eq k))
          (R3.loadF (inb := k0_off12_inb k) (s0 := 1) (s1 := 1) (s2 := 256) h6 (k0_off12_eq k))) rfl (fun x y z a b c _ => hit 3 x y z a b c)
          (On3.storeF (pay11_R (R4.loadQ (o0 := 0) (o1 := 2) (o2 := 0) (o3 := 0) (s0 := 1) (s1 := 1) (s2 := 128) (s3 := 160) h2 rfl)
          (R4.loadQ (inb := k0_off9_inb k) (s0 := 1) (s1 := 1) (s2 := 160) (s3 := 256) h3 (k0_off9_eq k))
          (R3.loadF (inb := k0_off10_inb k) (s0 := 1) (s1 := 1) (s2 := 256) h6 (k0_off10_eq k))) rfl (fun x y z a b c _ => hit 2 x y z a b c)
          (On3.storeF (pay10_R (R4.loadQ (o0 := 0) (o1 := 1) (o2 := 0) (o3 := 0) (s0 := 1) (s1 := 1) (s2 := 128) (s3 := 160) h2 rfl)
          (R4.loadQ (inb := k0_off7_inb k) (s0 := 1) (s1 := 1) (s2 := 160) (s3 := 256) h3 (k0_off7_eq k))
          (R3.loadF (inb := k0_off8_inb k) (s0 := 1) (s1 := 1) (s2 := 256) h6 (k0_off8_eq k))) rfl (fun x y z a b c _ => hit 1 x y z a b c)
          (On3.storeF (pay8_R (R4.loadQ (o0 := 0) (o1 := 0) (o2 := 0) (o3 := 0) (s0 := 1) (s1 := 1) (s2 := 128) (s3 := 160) h2 rfl)
          (R4.loadQ (inb := k0_off5_inb k) (s0 := 1) (s1 := 1) (s2 := 160) (s3 := 256) h3 (k0_off5_eq k))
          (R3.loadF (inb := k0_off6_inb k) (s0 := 1) (s1 := 1) (s2 := 256) h6 (k0_off6_eq k))) rfl (fun x y z a b c _ => hit 0 x y z a b c)
          (fun y hy => ?_)))))))))))))))))
        have h0 : (y 0 : ℕ) < 16 := (y 0).isLt
        have h1 : (y 1 : ℕ) < 128 := (y 1).isLt
        have h2 : (y 2 : ℕ) < 256 := (y 2).isLt
        omega
    let I3 := val_k0_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 k D Y12 X15 h12 h15
    have h110 : On3 (arg11.view.read (Elt Ideal) X11) (fun g _ j => j < 256 * k.val ∨ (j < 256 * (k.val + 1) ∧ g < 0)) D.E :=
      h11.mono fun x y z _ _ _ h => ⟨by omega, rfl⟩
    sl_exec
    sl_step
    isplitl [H2]; · iexact H2
    isplitl [H3]; · iexact H3
    isplitl [H6]; · iexact H6
    isplitl [H15]; · iexact H15
    isplitl [H12]; · iexists _; iexact H12
    iexists _
    isplitl [H11]
    · iexact H11
    · ipureintro
      have ht : Scf.trips k0_t3_loop.lb k0_t3_loop.ub k0_t3_loop.st = 16 := by decide
      exact hL3.mono fun x y z hx hy hz h => ⟨by omega, rfl⟩

end Cert.KernelIdeal.Val
-- ==== Proof.Soft.lean ====
/- The loops of the softmax pass: the running maximum, the powers of two and their sums, and the second weights. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Claim
public import proofs.«01_k».proof.Proof.Pay2
public import proofs.«01_k».proof.Proof.Pay3
public import proofs.«01_k».proof.Proof.Pay4

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- The running maximum of a row group's mixed scores: minus infinity before the first block, a real number from then on. -/
def val_k0_t5 (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (c0_i32_5 c1_i32_7 : BitVec 32) (k0_t4 : Fin k0_t4_loop.trips) (D : Blk) (X11 : BufTy.Contents (Elt Ideal) arg11.view.ty)
    (h11 : On3 (arg11.view.read (Elt Ideal) X11) (fun g _ _ => g = k0_t4) D.E) :
    Idealize.ShloMosaic.LoopInv (M := MT nD τ sig Unit (Elt Ideal) ℕ (UR sig nD τ) ℕ) Idealize.ShloMosaic.frame
      (wpE defs₀ Variants.none (c : Thread nD τ) none) Set.univ k0_t5_loop.lb k0_t5_loop.ub k0_t5_loop.st k0_t5_ok (k0_pay29 (F := Ideal))
      (k0_t5_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 c0_i32_5 c1_i32_7 k0_t4) where
  inv := fun k acc => iprop((arg11.view.loc (c : Thread nD τ) ↦[arg11.view.set]{fullShare} X11) ∗ ⌜(k = 0 → ∀ y, acc y = (⊥ : EReal)) ∧ (0 < k → AllReal acc)⌝)
  step := fun k acc => by
    unfold k0_t5_body
    iintro ⟨H11, %hacc⟩
    sl_exec
    sl_step
    isplitl [H11]; · iexact H11
    ipureintro
    sl_unfold_run_names
    have e196 := On3.loadF (inb := k0_off41_inb k0_t4 k) (s0 := 1) (s1 := 96) (s2 := 256) h11 (k0_off41_eq k0_t4 k) (fun x y z _ _ _ => by omega)
    refine ⟨fun h => absurd h (Nat.succ_ne_zero _), fun _ => pay30_real ?_ fun y => ⟨_, e196 y⟩⟩
    rcases Nat.eq_zero_or_pos k.val with h | h
    · exact .inl (hacc.1 h)
    · exact .inr (hacc.2 h)

/-- The second pass over a row group: the mixed scores become powers of two, and the partial sums of a row gather over the blocks. -/
def val_k0_t6 (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (c0_i32_5 c1_i32_7 : BitVec 32) (k0_t4 : Fin k0_t4_loop.trips) (v60 : FVec Ideal S96x128 .f32) (D : Blk)
    (G : ℕ → ℕ → ℕ → ℝ) (h60 : AllReal v60) (hG : ∀ r j, G k0_t4 r j = D.E k0_t4 r j) :
    Idealize.ShloMosaic.LoopInv (M := MT nD τ sig Unit (Elt Ideal) ℕ (UR sig nD τ) ℕ) Idealize.ShloMosaic.frame
      (wpE defs₀ Variants.none (c : Thread nD τ) none) Set.univ k0_t6_loop.lb k0_t6_loop.ub k0_t6_loop.st k0_t6_ok (k0_pay31 (F := Ideal))
      (k0_t6_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 c0_i32_5 c1_i32_7 k0_t4 v60) where
  inv := fun k acc => iprop((∃ X, (arg11.view.loc (c : Thread nD τ) ↦[arg11.view.set]{fullShare} X)
    ∗ ⌜R3 (arg11.view.read (Elt Ideal) X) (fun g r j => if g = k0_t4 ∧ j < 256 * k then D.X g r (mx v60 r) j else G g r j)⌝)
    ∗ ⌜R2 acc (fun r x => ∑ b : Fin k, (D.X k0_t4 r (mx v60 r) (256 * b + x) + D.X k0_t4 r (mx v60 r) (256 * b + (128 + x))))⌝)
  step := fun k acc => by
    unfold k0_t6_body
    iintro ⟨⟨%X11, H11, %h11⟩, %hacc⟩
    sl_exec
    sl_step
    have hk : k.val < 16 := Nat.lt_of_lt_of_le k.isLt k0_t6_abs.2.1
    have e196 := R3.congr (R3.loadF (inb := k0_off42_inb k0_t4 k) (s0 := 1) (s1 := 96) (s2 := 256) h11 (k0_off42_eq k0_t4 k))
      (g := fun _ r j => D.E k0_t4 r (256 * k + j)) (fun x y z hx _ _ => by
        obtain rfl : x = 0 := by omega
        rw [if_neg (by omega)]
        simp only [Nat.zero_add, Nat.add_zero, hG])
    isplitl [H11]
    · iexists _
      isplitl [H11]
      · iexact H11
      · ipureintro
        sl_unfold_run_names
        refine On3.all (P := fun _ _ _ => True) ?_ fun _ _ _ _ _ _ => trivial
        refine On3.storeF (pay33_R h60 e196) (k0_off42_eq ..) ?_ ((h11.on fun _ _ _ => True).mono ?_)
        · intro x y z hx hy hz _
          obtain rfl : x = 0 := by omega
          rw [if_pos (by omega)]
          simp only [Blk.X, Nat.zero_add, Nat.add_zero]
        · intro x y z hx hy hz h
          refine ⟨trivial, ?_⟩
          by_cases h1 : x = k0_t4.val ∧ z < 256 * k.val
          · rw [if_pos h1, if_pos (by omega)]
          · rw [if_neg h1, if_neg (by omega)]
    · ipureintro
      sl_unfold_run_names
      refine R2.congr (pay34_R h60 hacc e196) fun x y hx hy => ?_
      rw [Fin.sum_univ_castSucc]
      rfl

/-- The first `k` row groups after the softmax pass, the others before it. -/
def Blk.XE (D : Blk) (M : ℕ → ℕ → ℝ) (k g r j : ℕ) : ℝ := if g < k then D.X g r (M g r) j else D.E g r j

theorem Blk.L_pos (D : Blk) (g r : ℕ) (m : ℝ) : 0 < D.L g r m :=
  Finset.sum_pos (fun _ _ => Real.rpow_pos_of_pos (by norm_num) _) ⟨0, Finset.mem_univ _⟩

/-- A sum over the columns, block by block and half by half. -/
theorem sum_blocks (f : ℕ → ℝ) : ∑ x : Fin 128, ∑ b : Fin 16, (f (256 * b + x) + f (256 * b + (128 + x))) = ∑ j : Fin 4096, f j := by
  rw [show ∑ j : Fin 4096, f j = ∑ p : Fin 16 × Fin 256, f (finProdFinEquiv (m := 16) (n := 256) p) from
    (Equiv.sum_comp (finProdFinEquiv (m := 16) (n := 256)) (fun j : Fin (16 * 256) => f j)).symm, Fintype.sum_prod_type, Finset.sum_comm]
  refine Finset.sum_congr rfl fun b _ => ?_
  rw [Finset.sum_add_distrib, show ∑ x : Fin 256, f (finProdFinEquiv (m := 16) (n := 256) (b, x)) = _ from
    Fin.sum_univ_add (a := 128) (b := 128) (fun x : Fin (128 + 128) => f (finProdFinEquiv (m := 16) (n := 256) (b, x)))]
  congr 1 <;> refine Finset.sum_congr rfl fun x _ => congrArg f ?_ <;> simp [finProdFinEquiv] <;> omega

/-- The softmax pass, row group by row group. -/
def val_k0_t4 (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (D : Blk) (X9 : BufTy.Contents (Elt Ideal) arg9.view.ty) (h9 : R2 (arg9.view.read (Elt Ideal) X9) D.w2) :
    Idealize.ShloMosaic.LoopInv (M := MT nD τ sig Unit (Elt Ideal) ℕ (UR sig nD τ) ℕ) Idealize.ShloMosaic.frame
      (wpE defs₀ Variants.none (c : Thread nD τ) none) Set.univ k0_t4_loop.lb k0_t4_loop.ub k0_t4_loop.st k0_t4_ok ()
      (k0_t4_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) where
  inv := fun k acc => iprop((arg9.view.loc (c : Thread nD τ) ↦[arg9.view.set]{fullShare} X9) ∗ (∃ X X', (arg11.view.loc (c : Thread nD τ) ↦[arg11.view.set]{fullShare} X) ∗ (arg16.view.loc (c : Thread nD τ) ↦[arg16.view.set]{fullShare} X')
    ∗ ⌜∃ M : ℕ → ℕ → ℝ, R3 (arg11.view.read (Elt Ideal) X) (D.XE M k)
      ∧ On3 (arg16.view.read (Elt Ideal) X') (fun g _ _ => g < k) (fun g r l => D.W2 g (M g) r l)⌝))
  step := fun k acc => by
    unfold k0_t4_body
    iintro ⟨H9, ⟨%X11, %X16, H11, H16, %hM⟩⟩
    obtain ⟨M, h11, h16⟩ := hM
    have e11 : On3 (arg11.view.read (Elt Ideal) X11) (fun g _ _ => g = k.val) D.E := (h11.on _).mono fun x y z _ _ _ h => ⟨h, if_neg (by omega)⟩
    let I5 := val_k0_t5 c i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k D X11 e11
    have i5 : (0 = 0 → ∀ y, k0_pay29 (F := Ideal) y = (⊥ : EReal)) ∧ (0 < 0 → AllReal (k0_pay29 (F := Ideal))) :=
      ⟨fun _ => pay29_bot, fun h => absurd h (lt_irrefl _)⟩
    sl_exec
    rename_i v60
    have t5 : Scf.trips k0_t5_loop.lb k0_t5_loop.ub k0_t5_loop.st = 16 := by decide
    have h60 : AllReal v60 := hL1.2 (by rw [t5]; decide)
    have hG : ∀ r j, D.XE M k k r j = D.E k r j :=
      fun r j => if_neg (by omega)
    let I6 := val_k0_t6 c i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k v60 D (D.XE M k) h60 hG
    have i6 : R3 (arg11.view.read (Elt Ideal) X11) (fun g r j => if g = k.val ∧ j < 256 * 0 then D.X g r (mx v60 r) j
        else D.XE M k g r j) :=
      h11.congr fun x y z _ _ _ => (if_neg (by omega)).symm
    have i6' : R2 (k0_pay31 (F := Ideal)) (fun r x => ∑ b : Fin 0, (D.X k r (mx v60 r) (256 * b + x) + D.X k r (mx v60 r) (256 * b + (128 + x)))) :=
      R2.congr pay31_R fun _ _ _ _ => by simp
    sl_exec
    sl_step
    rename_i v65
    have t6 : Scf.trips k0_t6_loop.lb k0_t6_loop.ub k0_t6_loop.st = 16 := by decide
    have hS : ∀ n, n = 16 → ∀ r, ∑ x : Fin 128, ∑ b : Fin n, (D.X k r (mx v60 r) (256 * b + x) + D.X k r (mx v60 r) (256 * b + (128 + x)))
        = D.L k r (mx v60 r) := by
      rintro _ rfl r
      exact sum_blocks _
    have hL := hS _ t6
    have e71 := R2.congr (pay35_R hL2 fun r _ => by rw [hL]; exact (D.L_pos ..).ne') (g := fun r _ => 1 / D.L k r (mx v60 r))
      fun x y _ _ => by rw [hL]
    have e146 := R2.loadF (o0 := 0) (o1 := 0) (s0 := 64) (s1 := 256) (off := ![0, 0]) (inb := inb_S64x256_S64x256_0_0) h9 rfl
    have hu : ∀ r l, (if l / 16 < 12 then 1 / D.L k (l / 16 * 8 + r % 8) (mx v60 (l / 16 * 8 + r % 8)) else 0) = D.U k (mx v60) r l :=
      fun r l => rfl
    isplitl [H9]; · iexact H9
    iexists _; iexists _
    isplitl [H11]; · iexact H11
    isplitl [H16]; · iexact H16
    ipureintro
    refine ⟨fun g => if g = k.val then mx v60 else M g, ?_, ?_⟩
    · refine hL1.congr fun x y z _ _ hz => ?_
      by_cases h : x = k.val
      · rw [if_pos ⟨h, by omega⟩, Blk.XE, if_pos (by omega), if_pos h]
      · rw [if_neg (fun h' => h h'.1), Blk.XE, Blk.XE, if_neg h]
        by_cases h' : x < k.val
        · rw [if_pos h', if_pos (by omega)]
        · rw [if_neg h', if_neg (by omega)]
    · sl_unfold_run_names
      refine On3.storeB (pay71_R e71 e146) (k0_off45_eq ..) ?_ (On3.storeB (pay70_R e71 e146) (k0_off44_eq ..) ?_
        (On3.storeB (pay46_R e71 e146) (k0_off43_eq ..) ?_ (h16.mono ?_)))
      · intro x y z hx hy hz _
        obtain rfl : x = 0 := by omega
        simp only [Nat.zero_add, Nat.add_zero, hu, ↓reduceIte]
        simp only [Blk.W2, if_neg (show ¬ 128 + y < 64 by omega), if_neg (show ¬ 128 + y < 128 by omega), Nat.add_sub_cancel_left]
      · intro x y z hx hy hz _
        obtain rfl : x = 0 := by omega
        simp only [Nat.zero_add, Nat.add_zero]
        simp only [Blk.W2, if_neg (show ¬ 64 + y < 64 by omega), if_pos (show 64 + y < 128 by omega)]
      · intro x y z hx hy hz _
        obtain rfl : x = 0 := by omega
        simp only [Nat.zero_add, Nat.add_zero, hu, ↓reduceIte]
        simp only [Blk.W2, if_pos hy]
      · intro x y z hx hy hz h
        have h1 : x < k.val := by omega
        exact ⟨h1, by simp only [if_neg (show ¬ x = k.val by omega)]⟩

end Cert.KernelIdeal.Val
-- ==== Proof.Av.lean ====
/- The kernel's last loop over blocks of 256 columns: the probabilities mixed across heads, and their product with the values. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Claim
public import proofs.«01_k».proof.Proof.Pay2
public import proofs.«01_k».proof.Proof.Pay3
public import proofs.«01_k».proof.Proof.Pay4

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- The softmax of a row does not depend on the shift. -/
theorem Blk.X_div_L (D : Blk) (g r : ℕ) (m : ℝ) (j : ℕ) : D.X g r m j * (1 / D.L g r m) = D.A g r j := by
  have e : ∀ j, D.X g r m j = Real.rpow 2 (D.E g r j) * Real.rpow 2 (-m) := fun j => by
    rw [Blk.X, sub_eq_add_neg]; exact Real.rpow_add (by norm_num) _ _
  have hm : Real.rpow 2 (-m) ≠ 0 := (Real.rpow_pos_of_pos (by norm_num) _).ne'
  have hs : D.L g r m = (∑ j' : Fin 4096, Real.rpow 2 (D.E g r j')) * Real.rpow 2 (-m) := by
    rw [Blk.L, Finset.sum_mul]; exact Finset.sum_congr rfl fun j' _ => e j'
  rw [hs, e, Blk.A, mul_one_div, mul_div_mul_right _ _ hm]

/-- A mix of normalised powers is the mix of the softmax rows: the weights pick out the rows of one residue. -/
theorem mix_Pr (D : Blk) (hd : D.Diag) (M : ℕ → ℕ → ℝ) (g m y z o : ℕ) (hm : m < 8) (hy : y < 8) (x a b : ℕ → ℕ → ℕ → ℝ) (s : ℕ → ℕ → EReal)
    (hx : ∀ t, t < 96 → x 0 t z = D.X g t (M g t) (o + z)) (ha : ∀ r l, r < 128 → a 0 r l = D.W2 g (M g) r l)
    (hb : ∀ r l, r < 64 → b 0 r l = D.W2 g (M g) (128 + r) l) (hs : s (m * 8 + y) z = D.vs m (o + z)) :
    mix x a b s (m * 8 + y) z = D.Pr m (8 * g + y) (o + z) := by
  have e1 : (8 * g + y) % 8 = y := by omega
  have e2 : (8 * g + y) / 8 = g := by omega
  rw [mix, Blk.Pr, hs, e1, e2]
  refine congrArg (fun e : ℝ => (e : EReal) * D.vs m (o + z)) ?_
  refine Finset.sum_congr rfl fun t _ => ?_
  have ht := t.isLt
  have o1 : (2 * (t : ℕ) + 1) % 2 = 1 := by omega
  rw [hx t ht, ha _ _ (by omega), ha _ _ (by omega), hb _ _ (by omega)]
  simp only [Blk.W2, if_pos (show m * 8 + y < 64 by omega), if_neg (show ¬ 64 + (m * 8 + y) < 64 by omega), if_pos (show 64 + (m * 8 + y) < 128 by omega),
    if_neg (show ¬ 128 + (m * 8 + y) < 64 by omega), if_neg (show ¬ 128 + (m * 8 + y) < 128 by omega), if_pos o1, add_zero]
  by_cases h : (2 * (t : ℕ) + 1) / 2 % 8 = (m * 8 + y) % 8
  · have e : (2 * (t : ℕ) + 1) / 16 * 8 + (m * 8 + y) % 8 = t := by omega
    rw [Blk.U, if_pos (by omega), e, ← D.X_div_L g t (M g t)]
    ring
  · rw [hd _ _ h]; ring

/-- One block of columns of the probabilities, two row groups at a time. -/
def val_k0_t8 (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (k0_t7 : Fin k0_t7_loop.trips) (v59 : BitVec 32) (v64 v69 v74 v79 v84 v89 v94 : FVec Ideal S8x256 .f32) (v96 : Vec Ideal S1x1x256 .f32)
    (D : Blk) (hd : D.Diag) (M : ℕ → ℕ → ℝ) (X11 : BufTy.Contents (Elt Ideal) arg11.view.ty) (X16 : BufTy.Contents (Elt Ideal) arg16.view.ty)
    (h11 : R3 (arg11.view.read (Elt Ideal) X11) (fun g r j => D.X g r (M g r) j)) (h16 : R3 (arg16.view.read (Elt Ideal) X16) (fun g r l => D.W2 g (M g) r l))
    (hv : E2 (k0_pay56 v64 v69 v74 v79 v84 v89 v94 v96) (fun r j => D.vs (r / 8) (256 * k0_t7 + j))) :
    Idealize.ShloMosaic.LoopInv (M := MT nD τ sig Unit (Elt Ideal) ℕ (UR sig nD τ) ℕ) Idealize.ShloMosaic.frame
      (wpE defs₀ Variants.none (c : Thread nD τ) none) Set.univ k0_t8_loop.lb k0_t8_loop.ub k0_t8_loop.st k0_t8_ok ()
      (k0_t8_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t7 v59 v64 v69 v74 v79 v84 v89 v94 v96) where
  inv := fun k acc => iprop((arg11.view.loc (c : Thread nD τ) ↦[arg11.view.set]{fullShare} X11) ∗ (arg16.view.loc (c : Thread nD τ) ↦[arg16.view.set]{fullShare} X16) ∗ (∃ X, (arg13.view.loc (c : Thread nD τ) ↦[arg13.view.set]{fullShare} X)
    ∗ ⌜OnE3 (arg13.view.read (Elt Ideal) X) (fun _ i _ => i < 16 * k) (fun m i j => D.Pr m i (256 * k0_t7 + j))⌝))
  step := fun k acc => by
    unfold k0_t8_body
    iintro ⟨H11, H16, ⟨%X13, H13, %h13⟩⟩
    sl_exec
    sl_step
    isplitl [H11]; · iexact H11
    isplitl [H16]; · iexact H16
    iexists _
    isplitl [H13]
    · iexact H13
    · ipureintro
      sl_unfold_run_names
      have l54 (r : Fin 2) := R3.loadF (inb := k0_off54_inb k0_t7 k r) (s0 := 1) (s1 := 96) (s2 := 256) h11 (k0_off54_eq k0_t7 k r)
      have l55 (r : Fin 2) := R3.loadB (inb := k0_off55_inb k r) (s0 := 1) (s1 := 128) (s2 := 256) h16 (k0_off55_eq k r)
      have l56 (r : Fin 2) := R3.loadB (inb := k0_off56_inb k r) (s0 := 1) (s1 := 64) (s2 := 256) h16 (k0_off56_eq k r)
      refine OnE3.storeB (pay48_R hv (l54 0) (l55 0) (l56 0) (l54 1) (l55 1) (l56 1)) (k0_off57_eq k) ?_ (h13.mono ?_)
      · intro m y z hm hy hz _
        by_cases h : y < 8
        · rw [if_pos h]
          refine (mix_Pr D hd M (2 * k + 0) m y z (256 * k0_t7) hm (by omega) _ _ _ _ (fun t ht => ?_) (fun r l hr => ?_) (fun r l hr => ?_) ?_).trans ?_
          · simp only [Nat.zero_add, Nat.add_zero]; rfl
          · simp only [Nat.zero_add, Nat.add_zero]; rfl
          · simp only [Nat.zero_add, Nat.add_zero]; rfl
          · rw [show (m * 8 + y) / 8 = m by omega]
          · congr 1 <;> omega
        · rw [if_neg h]
          refine (mix_Pr D hd M (2 * k + 1) m (y - 8) z (256 * k0_t7) hm (by omega) _ _ _ _ (fun t ht => ?_) (fun r l hr => ?_) (fun r l hr => ?_) ?_).trans ?_
          · simp only [Nat.zero_add, Nat.add_zero]; rfl
          · simp only [Nat.zero_add, Nat.add_zero]; rfl
          · simp only [Nat.zero_add, Nat.add_zero]; rfl
          · rw [show (m * 8 + (y - 8)) / 8 = m by omega]
          · congr 1 <;> omega
      · intro x y z hx hy hz h
        exact ⟨by omega, rfl⟩

/-- The product with the values, one block of columns at a time. -/
def val_k0_t7 (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (D : Blk) (hd : D.Diag) (M : ℕ → ℕ → ℝ) (X4 : BufTy.Contents (Elt Ideal) arg4.view.ty) (X7 : BufTy.Contents (Elt Ideal) arg7.view.ty) (X11 : BufTy.Contents (Elt Ideal) arg11.view.ty) (X16 : BufTy.Contents (Elt Ideal) arg16.view.ty)
    (h4 : E4 (arg4.view.read (Elt Ideal) X4) (fun _ m j d => D.v m j d)) (h7 : E3 (arg7.view.read (Elt Ideal) X7) (fun _ m j => D.vs m j))
    (h11 : R3 (arg11.view.read (Elt Ideal) X11) (fun g r j => D.X g r (M g r) j)) (h16 : R3 (arg16.view.read (Elt Ideal) X16) (fun g r l => D.W2 g (M g) r l)) :
    Idealize.ShloMosaic.LoopInv (M := MT nD τ sig Unit (Elt Ideal) ℕ (UR sig nD τ) ℕ) Idealize.ShloMosaic.frame
      (wpE defs₀ Variants.none (c : Thread nD τ) none) Set.univ k0_t7_loop.lb k0_t7_loop.ub k0_t7_loop.st k0_t7_ok ()
      (k0_t7_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) where
  inv := fun k acc => iprop((arg4.view.loc (c : Thread nD τ) ↦[arg4.view.set]{fullShare} X4) ∗ (arg7.view.loc (c : Thread nD τ) ↦[arg7.view.set]{fullShare} X7) ∗ (arg11.view.loc (c : Thread nD τ) ↦[arg11.view.set]{fullShare} X11) ∗ (arg16.view.loc (c : Thread nD τ) ↦[arg16.view.set]{fullShare} X16) ∗ (∃ X, (arg13.view.loc (c : Thread nD τ) ↦[arg13.view.set]{fullShare} X))
    ∗ (∃ X, (arg14.view.loc (c : Thread nD τ) ↦[arg14.view.set]{fullShare} X) ∗ ⌜E3 (arg14.view.read (Elt Ideal) X) (fun m i d => ∑ b : Fin k, ∑ j : Fin 256, D.Pr m i (256 * b + j) * D.v m (256 * b + j) d)⌝))
  step := fun k acc => by
    unfold k0_t7_body
    iintro ⟨H4, H7, H11, H16, ⟨%X13, H13⟩, ⟨%X14, H14, %h14⟩⟩
    sl_exec
    have hv : E2 (k0_pay56 (val_k0_t7.sl.v64 arg7 X7 k) (val_k0_t7.sl.v69 arg7 X7 k) (val_k0_t7.sl.v74 arg7 X7 k) (val_k0_t7.sl.v79 arg7 X7 k) (val_k0_t7.sl.v84 arg7 X7 k) (val_k0_t7.sl.v89 arg7 X7 k) (val_k0_t7.sl.v94 arg7 X7 k) (arg7.view.readAt (Elt Ideal) (Rect.unit (s := S1x8x4096) (k0_off53 k) S1x1x256.size (k0_off53_inb k)).toLoadRect X7)) (fun r j => D.vs (r / 8) (256 * k + j)) := by
      have hvs : ∀ m x y z : ℕ, x < 1 → y < 1 → z < 256 → D.vs (m + y) (256 * k + z) = D.vs m (256 * k + z) := fun m x y z _ hy _ => by
        obtain rfl : y = 0 := by omega
        rfl
      have l0 := E3.congr (E3.loadF (inb := k0_off46_inb k) (s0 := 1) (s1 := 1) (s2 := 256) h7 (k0_off46_eq k))
        (g := fun _ _ j => (fun m j => D.vs m (256 * k + j) : ℕ → ℕ → EReal) 0 j) (hvs 0)
      have l1 := E3.congr (E3.loadF (inb := k0_off47_inb k) (s0 := 1) (s1 := 1) (s2 := 256) h7 (k0_off47_eq k))
        (g := fun _ _ j => (fun m j => D.vs m (256 * k + j) : ℕ → ℕ → EReal) 1 j) (hvs 1)
      have l2 := E3.congr (E3.loadF (inb := k0_off48_inb k) (s0 := 1) (s1 := 1) (s2 := 256) h7 (k0_off48_eq k))
        (g := fun _ _ j => (fun m j => D.vs m (256 * k + j) : ℕ → ℕ → EReal) 2 j) (hvs 2)
      have l3 := E3.congr (E3.loadF (inb := k0_off49_inb k) (s0 := 1) (s1 := 1) (s2 := 256) h7 (k0_off49_eq k))
        (g := fun _ _ j => (fun m j => D.vs m (256 * k + j) : ℕ → ℕ → EReal) 3 j) (hvs 3)
      have l4 := E3.congr (E3.loadF (inb := k0_off50_inb k) (s0 := 1) (s1 := 1) (s2 := 256) h7 (k0_off50_eq k))
        (g := fun _ _ j => (fun m j => D.vs m (256 * k + j) : ℕ → ℕ → EReal) 4 j) (hvs 4)
      have l5 := E3.congr (E3.loadF (inb := k0_off51_inb k) (s0 := 1) (s1 := 1) (s2 := 256) h7 (k0_off51_eq k))
        (g := fun _ _ j => (fun m j => D.vs m (256 * k + j) : ℕ → ℕ → EReal) 5 j) (hvs 5)
      have l6 := E3.congr (E3.loadF (inb := k0_off52_inb k) (s0 := 1) (s1 := 1) (s2 := 256) h7 (k0_off52_eq k))
        (g := fun _ _ j => (fun m j => D.vs m (256 * k + j) : ℕ → ℕ → EReal) 6 j) (hvs 6)
      have l7 := E3.congr (E3.loadF (inb := k0_off53_inb k) (s0 := 1) (s1 := 1) (s2 := 256) h7 (k0_off53_eq k))
        (g := fun _ _ j => (fun m j => D.vs m (256 * k + j) : ℕ → ℕ → EReal) 7 j) (hvs 7)
      sl_unfold_run_names
      exact pay56_R (s := fun m j => D.vs m (256 * k + j)) l0 l1 l2 l3 l4 l5 l6 l7
    let I8 := val_k0_t8 c i arg2 harg2 arg3 harg3 arg4 harg4 arg5 harg5 arg6 harg6 arg7 harg7 arg8 harg8 arg9 harg9 arg10 harg10 arg11 harg11 arg12 harg12 arg13 harg13 arg14 harg14 arg15 harg15 arg16 harg16 k (val_k0_t7.sl.v58 k) (val_k0_t7.sl.v64 arg7 X7 k) (val_k0_t7.sl.v69 arg7 X7 k) (val_k0_t7.sl.v74 arg7 X7 k) (val_k0_t7.sl.v79 arg7 X7 k) (val_k0_t7.sl.v84 arg7 X7 k) (val_k0_t7.sl.v89 arg7 X7 k) (val_k0_t7.sl.v94 arg7 X7 k) _ D hd M X11 X16 h11 h16 hv
    have i8 : OnE3 (arg13.view.read (Elt Ideal) X13) (fun _ i _ => i < 16 * 0) (fun m i j => D.Pr m i (256 * k.val + j)) := fun y hy => absurd hy (by omega)
    sl_exec
    sl_step
    have t8 : Scf.trips k0_t8_loop.lb k0_t8_loop.ub k0_t8_loop.st = 8 := by decide
    have h13 := hL3.all fun x y z _ hy _ => by omega
    isplitl [H4]; · iexact H4
    isplitl [H7]; · iexact H7
    isplitl [H11]; · iexact H11
    isplitl [H16]; · iexact H16
    isplitl [H13]; · iexists _; iexact H13
    iexists _
    isplitl [H14]
    · iexact H14
    · ipureintro
      sl_unfold_run_names
      have hit : ∀ o x y z : ℕ, x < 1 → y < 128 → z < 160 →
          (∑ b : Fin k, ∑ j : Fin 256, D.Pr (o + 0) (0 + y) (256 * b + j) * D.v (o + 0) (256 * b + j) (0 + z))
            + ∑ j : Fin 256, D.Pr (o + 0) (0 + y) (256 * k + (0 + j)) * D.v (o + 0) (256 * k + j) (0 + z)
          = ∑ b : Fin (k + 1), ∑ j : Fin 256, D.Pr (o + x) (0 + y) (256 * b + j) * D.v (o + x) (256 * b + j) (0 + z) := by
        intro o x y z hx _ _
        obtain rfl : x = 0 := by omega
        refine Eq.trans ?_ (Fin.sum_univ_castSucc (n := k.val) _).symm
        simp only [Nat.zero_add, Nat.add_zero, Fin.val_castSucc, Fin.val_last]
      refine OnE3.all (P := fun _ _ _ => True) ?_ fun _ _ _ _ _ _ => trivial
      refine (OnE3.storeF (pay74_R
          (E4.loadQ (inb := k0_off65_inb k) (s0 := 1) (s1 := 1) (s2 := 256) (s3 := 160) h4 (k0_off65_eq k))
          (E3.loadF (o0 := 7) (o1 := 0) (o2 := 0) (s0 := 1) (s1 := 128) (s2 := 160) (off := ![7, 0, 0]) (inb := inb_S8x128x160_S1x128x160_7_0_0) h14 rfl)
          (E3.loadB (o0 := 7) (o1 := 0) (o2 := 0) (s0 := 1) (s1 := 128) (s2 := 256) (off := ![7, 0, 0]) (inb := inb_S8x128x256_S1x128x256_7_0_0) h13 rfl)) rfl (fun x y z a b c _ => hit 7 x y z a b c)
          (OnE3.storeF (pay73_R
          (E4.loadQ (inb := k0_off64_inb k) (s0 := 1) (s1 := 1) (s2 := 256) (s3 := 160) h4 (k0_off64_eq k))
          (E3.loadF (o0 := 6) (o1 := 0) (o2 := 0) (s0 := 1) (s1 := 128) (s2 := 160) (off := ![6, 0, 0]) (inb := inb_S8x128x160_S1x128x160_6_0_0) h14 rfl)
          (E3.loadB (o0 := 6) (o1 := 0) (o2 := 0) (s0 := 1) (s1 := 128) (s2 := 256) (off := ![6, 0, 0]) (inb := inb_S8x128x256_S1x128x256_6_0_0) h13 rfl)) rfl (fun x y z a b c _ => hit 6 x y z a b c)
          (OnE3.storeF (pay64_R
          (E4.loadQ (inb := k0_off63_inb k) (s0 := 1) (s1 := 1) (s2 := 256) (s3 := 160) h4 (k0_off63_eq k))
          (E3.loadF (o0 := 5) (o1 := 0) (o2 := 0) (s0 := 1) (s1 := 128) (s2 := 160) (off := ![5, 0, 0]) (inb := inb_S8x128x160_S1x128x160_5_0_0) h14 rfl)
          (E3.loadB (o0 := 5) (o1 := 0) (o2 := 0) (s0 := 1) (s1 := 128) (s2 := 256) (off := ![5, 0, 0]) (inb := inb_S8x128x256_S1x128x256_5_0_0) h13 rfl)) rfl (fun x y z a b c _ => hit 5 x y z a b c)
          (OnE3.storeF (pay63_R
          (E4.loadQ (inb := k0_off62_inb k) (s0 := 1) (s1 := 1) (s2 := 256) (s3 := 160) h4 (k0_off62_eq k))
          (E3.loadF (o0 := 4) (o1 := 0) (o2 := 0) (s0 := 1) (s1 := 128) (s2 := 160) (off := ![4, 0, 0]) (inb := inb_S8x128x160_S1x128x160_4_0_0) h14 rfl)
          (E3.loadB (o0 := 4) (o1 := 0) (o2 := 0) (s0 := 1) (s1 := 128) (s2 := 256) (off := ![4, 0, 0]) (inb := inb_S8x128x256_S1x128x256_4_0_0) h13 rfl)) rfl (fun x y z a b c _ => hit 4 x y z a b c)
          (OnE3.storeF (pay62_R
          (E4.loadQ (inb := k0_off61_inb k) (s0 := 1) (s1 := 1) (s2 := 256) (s3 := 160) h4 (k0_off61_eq k))
          (E3.loadF (o0 := 3) (o1 := 0) (o2 := 0) (s0 := 1) (s1 := 128) (s2 := 160) (off := ![3, 0, 0]) (inb := inb_S8x128x160_S1x128x160_3_0_0) h14 rfl)
          (E3.loadB (o0 := 3) (o1 := 0) (o2 := 0) (s0 := 1) (s1 := 128) (s2 := 256) (off := ![3, 0, 0]) (inb := inb_S8x128x256_S1x128x256_3_0_0) h13 rfl)) rfl (fun x y z a b c _ => hit 3 x y z a b c)
          (OnE3.storeF (pay61_R
          (E4.loadQ (inb := k0_off60_inb k) (s0 := 1) (s1 := 1) (s2 := 256) (s3 := 160) h4 (k0_off60_eq k))
          (E3.loadF (o0 := 2) (o1 := 0) (o2 := 0) (s0 := 1) (s1 := 128) (s2 := 160) (off := ![2, 0, 0]) (inb := inb_S8x128x160_S1x128x160_2_0_0) h14 rfl)
          (E3.loadB (o0 := 2) (o1 := 0) (o2 := 0) (s0 := 1) (s1 := 128) (s2 := 256) (off := ![2, 0, 0]) (inb := inb_S8x128x256_S1x128x256_2_0_0) h13 rfl)) rfl (fun x y z a b c _ => hit 2 x y z a b c)
          (OnE3.storeF (pay60_R
          (E4.loadQ (inb := k0_off59_inb k) (s0 := 1) (s1 := 1) (s2 := 256) (s3 := 160) h4 (k0_off59_eq k))
          (E3.loadF (o0 := 1) (o1 := 0) (o2 := 0) (s0 := 1) (s1 := 128) (s2 := 160) (off := ![1, 0, 0]) (inb := inb_S8x128x160_S1x128x160_1_0_0) h14 rfl)
          (E3.loadB (o0 := 1) (o1 := 0) (o2 := 0) (s0 := 1) (s1 := 128) (s2 := 256) (off := ![1, 0, 0]) (inb := inb_S8x128x256_S1x128x256_1_0_0) h13 rfl)) rfl (fun x y z a b c _ => hit 1 x y z a b c)
          (OnE3.storeF (pay58_R
          (E4.loadQ (inb := k0_off58_inb k) (s0 := 1) (s1 := 1) (s2 := 256) (s3 := 160) h4 (k0_off58_eq k))
          (E3.loadF (o0 := 0) (o1 := 0) (o2 := 0) (s0 := 1) (s1 := 128) (s2 := 160) (off := ![0, 0, 0]) (inb := inb_S8x128x160_S1x128x160_0_0_0) h14 rfl)
          (E3.loadB (o0 := 0) (o1 := 0) (o2 := 0) (s0 := 1) (s1 := 128) (s2 := 256) (off := ![0, 0, 0]) (inb := inb_S8x128x256_S1x128x256_0_0_0) h13 rfl)) rfl (fun x y z a b c _ => hit 0 x y z a b c)
          (fun y hy => ?_)))))))))
      have h0 : (y 0 : ℕ) < 8 := (y 0).isLt
      have h1 : (y 1 : ℕ) < 128 := (y 1).isLt
      have h2 : (y 2 : ℕ) < 160 := (y 2).isLt
      omega

end Cert.KernelIdeal.Val
-- ==== Proof.Body.lean ====
/- The kernel's body at a grid point: from the numbers that its blocks hold, the result's block. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Claim
public import proofs.«01_k».proof.Proof.Pay2
public import proofs.«01_k».proof.Proof.Pay3
public import proofs.«01_k».proof.Proof.Pay4
public import proofs.«01_k».proof.Proof.Mix
public import proofs.«01_k».proof.Proof.Soft
public import proofs.«01_k».proof.Proof.Av

@[expose] public section

set_option maxRecDepth 16384
set_option warn.classDefReducibility false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- The result's block: row `i`, column `n` (output head `n / 160`, depth `n % 160`). -/
def Blk.O (D : Blk) (i n : ℕ) : EReal := ∑ b : Fin 16, ∑ j : Fin 256, D.Pr (n / 160) i (256 * b + j) * D.v (n / 160) (256 * b + j) (n % 160)
def Blk.Out (D : Blk) : Vec Ideal S1x128x1280 .bf16 := fun y => D.O (y 1) (y 2)

/-- The arrays a grid point reads hold the numbers of `D`. -/
structure Reads (D : Blk) (x2 : Vec Ideal S1x16x128x160 .fp8e4m3) (x3 : Vec Ideal S1x16x160x4096 .fp8e4m3) (x4 : Vec Ideal S1x8x4096x160 .fp8e4m3) (x5 : Vec Ideal S1x16x1x256 .f32) (x6 : Vec Ideal S1x16x4096 .f32) (x7 : Vec Ideal S1x8x4096 .f32) (x8 : Vec Ideal S96x256 .f32) (x9 : Vec Ideal S64x256 .f32) : Prop where
  q : R4 x2 (fun _ h i d => D.q h i d)
  k : R4 x3 (fun _ h d j => D.k h d j)
  v : E4 x4 (fun _ m j d => D.v m j d)
  qs : R4 x5 (fun _ g _ l => D.qs g l)
  ks : R3 x6 (fun _ h j => D.ks h j)
  vs : E3 x7 (fun _ m j => D.vs m j)
  w1 : R2 x8 D.w1
  w2 : R2 x9 D.w2
  diag : D.Diag

set_option maxHeartbeats 4000000 in
/-- The body from blocks that hold the numbers of `D`: the result's block ends at `D`'s result. -/
theorem val_kernel (c : Dev nD) (i : grid0.Coords) (arg2 : Memref sig .tc .vmem S1x16x128x160 .fp8e4m3) (harg2 : arg2.IsWhole) (arg3 : Memref sig .tc .vmem S1x16x160x4096 .fp8e4m3) (harg3 : arg3.IsWhole) (arg4 : Memref sig .tc .vmem S1x8x4096x160 .fp8e4m3) (harg4 : arg4.IsWhole) (arg5 : Memref sig .tc .vmem S1x16x1x256 .f32) (harg5 : arg5.IsWhole) (arg6 : Memref sig .tc .vmem S1x16x4096 .f32) (harg6 : arg6.IsWhole) (arg7 : Memref sig .tc .vmem S1x8x4096 .f32) (harg7 : arg7.IsWhole) (arg8 : Memref sig .tc .vmem S96x256 .f32) (harg8 : arg8.IsWhole) (arg9 : Memref sig .tc .vmem S64x256 .f32) (harg9 : arg9.IsWhole) (arg10 : Memref sig .tc .vmem S1x128x1280 .bf16) (harg10 : arg10.IsWhole) (arg11 : Memref sig .tc .vmem S16x96x4096 .f32) (harg11 : arg11.IsWhole) (arg12 : Memref sig .tc .vmem S16x128x256 .f32) (harg12 : arg12.IsWhole) (arg13 : Memref sig .tc .vmem S8x128x256 .bf16) (harg13 : arg13.IsWhole) (arg14 : Memref sig .tc .vmem S8x128x160 .f32) (harg14 : arg14.IsWhole) (arg15 : Memref sig .tc .vmem S16x288x256 .bf16) (harg15 : arg15.IsWhole) (arg16 : Memref sig .tc .vmem S16x192x256 .bf16) (harg16 : arg16.IsWhole) (D : Blk)
    (x2 : Vec Ideal S1x16x128x160 .fp8e4m3) (x3 : Vec Ideal S1x16x160x4096 .fp8e4m3) (x4 : Vec Ideal S1x8x4096x160 .fp8e4m3) (x5 : Vec Ideal S1x16x1x256 .f32) (x6 : Vec Ideal S1x16x4096 .f32) (x7 : Vec Ideal S1x8x4096 .f32) (x8 : Vec Ideal S96x256 .f32) (x9 : Vec Ideal S64x256 .f32) (hD : Reads D x2 x3 x4 x5 x6 x7 x8 x9) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare D.Out ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := Ideal)) Variants.none c none) Set.univ (cc0_talking_heads (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_talking_heads_eq_skeleton]; unfold cc0_talking_heads_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  subst hf2 hf3 hf4 hf5 hf6 hf7 hf8 hf9
  obtain ⟨h2, h3, h4, h5, h6, h7, h8, h9, hd⟩ := hD
  let I1 := val_k0_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 D f5 f8 h5 h8
  have i1 : On3 (arg15.view.read (Elt Ideal) f15) (fun g _ _ => g < 0) D.W1 := fun y hy => absurd hy (by omega)
  sl_exec
  have t1 : Scf.trips k0_t1_loop.lb k0_t1_loop.ub k0_t1_loop.st = 16 := by decide
  have e15 := hL3.all fun x y z hx _ _ => by omega
  let I2 := val_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 D f2 f3 f6 XL0 h2 h3 h6 e15
  have i2 : On3 (arg11.view.read (Elt Ideal) f11) (fun g _ j => j < 256 * 0) D.E := fun y hy => absurd hy (by omega)
  sl_exec
  have t2 : Scf.trips k0_t2_loop.lb k0_t2_loop.ub k0_t2_loop.st = 16 := by decide
  have e11 := hL6.all fun x y z _ _ hz => by omega
  let I4 := val_k0_t4 c i arg2 harg2 arg3 harg3 arg4 harg4 arg5 harg5 arg6 harg6 arg7 harg7 arg8 harg8 arg9 harg9 arg10 harg10 arg11 harg11 arg12 harg12 arg13 harg13 arg14 harg14 arg15 harg15 arg16 harg16 D f9 h9
  have i4 : ∃ M : ℕ → ℕ → ℝ, R3 (arg11.view.read (Elt Ideal) XL1) (D.XE M 0)
      ∧ On3 (arg16.view.read (Elt Ideal) f16) (fun g _ _ => g < 0) (fun g r l => D.W2 g (M g) r l) :=
    ⟨fun _ _ => 0, e11.congr fun g r j _ _ _ => by simp [Blk.XE], fun y hy => absurd hy (by omega)⟩
  sl_exec
  have t4 : Scf.trips k0_t4_loop.lb k0_t4_loop.ub k0_t4_loop.st = 16 := by decide
  obtain ⟨M, q11, q16⟩ := hL3
  have e11' : R3 (arg11.view.read (Elt Ideal) XL0) (fun g r j => D.X g r (M g r) j) := q11.congr fun g r j hg _ _ => by
    rw [Blk.XE, if_pos (by omega)]
  have e16 := q16.all fun x y z hx _ _ => by omega
  ihave ⟨%Y14, H14, %h14⟩ : (∃ X, (arg14.view.loc (c : Thread nD τ) ↦[arg14.view.set]{fullShare} X) ∗ ⌜E3 (arg14.view.read (Elt Ideal) X) (fun m i d => ∑ b : Fin 0, ∑ j : Fin 256, D.Pr m i (256 * b + j) * D.v m (256 * b + j) d)⌝) $$ [H14]
  · iexists _; isplitl [H14]; · iexact H14
    ipureintro
    sl_unfold_run_names
    refine OnE3.all (P := fun _ _ _ => True) ?_ fun _ _ _ _ _ _ => trivial
    refine OnE3.storeF pay72_R (o0 := 0) (o1 := 0) (o2 := 0) rfl (fun x y z _ _ _ _ => by simp) fun y hy => ?_
    have h0 : (y 0 : ℕ) < 8 := (y 0).isLt
    have h1 : (y 1 : ℕ) < 128 := (y 1).isLt
    have h2 : (y 2 : ℕ) < 160 := (y 2).isLt
    omega
  let I7 := val_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 D hd M f4 f7 XL0 X'L1 h4 h7 e11' e16
  sl_exec
  have t7 : Scf.trips k0_t7_loop.lb k0_t7_loop.ub k0_t7_loop.st = 16 := by decide
  have e14 : E3 (arg14.view.read (Elt Ideal) XL1) (fun m i d => ∑ b : Fin 16, ∑ j : Fin 256, D.Pr m i (256 * b + j) * D.v m (256 * b + j) d) :=
    (show ∀ n, n = 16 → E3 (arg14.view.read (Elt Ideal) XL1) (fun m i d => ∑ b : Fin n, ∑ j : Fin 256, D.Pr m i (256 * b + j) * D.v m (256 * b + j) d) →
      E3 (arg14.view.read (Elt Ideal) XL1) (fun m i d => ∑ b : Fin 16, ∑ j : Fin 256, D.Pr m i (256 * b + j) * D.v m (256 * b + j) d) from
      fun n hn h => by subst hn; exact h) _ t7 hL6
  ihave ⟨%Y10, H10, %h10⟩ : (∃ X, (arg10.view.loc (c : Thread nD τ) ↦[arg10.view.set]{fullShare} X) ∗ ⌜E3 (arg10.view.read (Elt Ideal) X) (fun _ i n => D.O i n)⌝) $$ [H10]
  · iexists _; isplitl [H10]; · iexact H10
    ipureintro
    sl_unfold_run_names
    have hit : ∀ m x y z : ℕ, y < 128 → z < 160 →
        (∑ b : Fin 16, ∑ j : Fin 256, D.Pr (m + 0) (0 + y) (256 * b + j) * D.v (m + 0) (256 * b + j) (0 + z)) = D.O (0 + y) (160 * m + z) := by
      intro m x y z _ hz
      have e1 : (160 * m + z) / 160 = m := by omega
      have e2 : (160 * m + z) % 160 = z := by omega
      simp only [Blk.O, e1, e2, Nat.add_zero, Nat.zero_add]
    refine OnE3.all (P := fun _ _ _ => True) ?_ fun _ _ _ _ _ _ => trivial
    refine (OnE3.storeB (pay2_R (E3.loadF (o0 := 7) (o1 := 0) (o2 := 0) (s0 := 1) (s1 := 128) (s2 := 160) (off := ![7, 0, 0]) (inb := inb_S8x128x160_S1x128x160_7_0_0) e14 rfl))
          (o0 := 0) (o1 := 0) (o2 := 1120) rfl (fun x y z a b c _ => hit 7 x y z b c)
          (OnE3.storeB (pay1_R (E3.loadF (o0 := 6) (o1 := 0) (o2 := 0) (s0 := 1) (s1 := 128) (s2 := 160) (off := ![6, 0, 0]) (inb := inb_S8x128x160_S1x128x160_6_0_0) e14 rfl))
          (o0 := 0) (o1 := 0) (o2 := 960) rfl (fun x y z a b c _ => hit 6 x y z b c)
          (OnE3.storeB (pay80_R (E3.loadF (o0 := 5) (o1 := 0) (o2 := 0) (s0 := 1) (s1 := 128) (s2 := 160) (off := ![5, 0, 0]) (inb := inb_S8x128x160_S1x128x160_5_0_0) e14 rfl))
          (o0 := 0) (o1 := 0) (o2 := 800) rfl (fun x y z a b c _ => hit 5 x y z b c)
          (OnE3.storeB (pay79_R (E3.loadF (o0 := 4) (o1 := 0) (o2 := 0) (s0 := 1) (s1 := 128) (s2 := 160) (off := ![4, 0, 0]) (inb := inb_S8x128x160_S1x128x160_4_0_0) e14 rfl))
          (o0 := 0) (o1 := 0) (o2 := 640) rfl (fun x y z a b c _ => hit 4 x y z b c)
          (OnE3.storeB (pay78_R (E3.loadF (o0 := 3) (o1 := 0) (o2 := 0) (s0 := 1) (s1 := 128) (s2 := 160) (off := ![3, 0, 0]) (inb := inb_S8x128x160_S1x128x160_3_0_0) e14 rfl))
          (o0 := 0) (o1 := 0) (o2 := 480) rfl (fun x y z a b c _ => hit 3 x y z b c)
          (OnE3.storeB (pay77_R (E3.loadF (o0 := 2) (o1 := 0) (o2 := 0) (s0 := 1) (s1 := 128) (s2 := 160) (off := ![2, 0, 0]) (inb := inb_S8x128x160_S1x128x160_2_0_0) e14 rfl))
          (o0 := 0) (o1 := 0) (o2 := 320) rfl (fun x y z a b c _ => hit 2 x y z b c)
          (OnE3.storeB (pay76_R (E3.loadF (o0 := 1) (o1 := 0) (o2 := 0) (s0 := 1) (s1 := 128) (s2 := 160) (off := ![1, 0, 0]) (inb := inb_S8x128x160_S1x128x160_1_0_0) e14 rfl))
          (o0 := 0) (o1 := 0) (o2 := 160) rfl (fun x y z a b c _ => hit 1 x y z b c)
          (OnE3.storeB (pay75_R (E3.loadF (o0 := 0) (o1 := 0) (o2 := 0) (s0 := 1) (s1 := 128) (s2 := 160) (off := ![0, 0, 0]) (inb := inb_S8x128x160_S1x128x160_0_0_0) e14 rfl))
          (o0 := 0) (o1 := 0) (o2 := 0) rfl (fun x y z a b c _ => hit 0 x y z b c)
          (fun y hy => ?_)))))))))
    have h0 : (y 0 : ℕ) < 1 := (y 0).isLt
    have h1 : (y 1 : ℕ) < 128 := (y 1).isLt
    have h2 : (y 2 : ℕ) < 1280 := (y 2).isLt
    omega
  have eOut : (arg10.view.read (Elt Ideal) Y10) = D.Out := funext h10
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact eOut
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  iexists _; iexists _; isplitr
  swap; · iexact H16
  ipureintro; rfl

end Cert.KernelIdeal.Val
-- ==== Proof.Run.lean ====
/- The kernel's result array, given at every grid point the numbers its blocks hold. -/
module

public import proofs.«01_k».proof.Proof.Body
public import proofs.«01_k».proof.Proof.Gen.KernelIdeal.Points
public import proofs.«01_k».proof.Proof.Gen.KernelIdeal.Frame
public import Idealize.ShloMosaic.Lib.Claim
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (Bk : Dev nD → Fin cfg0.N → Blk)

/-- At point `t` the arguments' blocks hold the numbers of `Bk c t`. -/
def AllReads : Prop := ∀ c t, Reads (Bk c t) (iblk m c 0 t) (iblk m c 1 t) (iblk m c 2 t) (iblk m c 3 t) (iblk m c 4 t) (iblk m c 5 t) (iblk m c 6 t) (iblk m c 7 t)

/-- The pipeline's proof data: each argument's staging buffer at its block, the result's at the block of numbers the point computes. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (Bk c t).Out
  Φ _ := Pipeline.ΦA spec0 c
  q _ := fullShare
  owed _ := 0

theorem A_eq (c : Dev nD) (w : Fin cfg0.W) : (dats m Bk 0 c).A w = V m c (Pipeline.arrRef spec0 w) := by
  dsimp only [dats]

theorem after0_0 (c : Dev nD) (t : Fin cfg0.N) : (dats m Bk 0 c).after 0 t = iblk m c 0 t := by dsimp only [dats]
theorem after0_1 (c : Dev nD) (t : Fin cfg0.N) : (dats m Bk 0 c).after 1 t = iblk m c 1 t := by dsimp only [dats]
theorem after0_2 (c : Dev nD) (t : Fin cfg0.N) : (dats m Bk 0 c).after 2 t = iblk m c 2 t := by dsimp only [dats]
theorem after0_3 (c : Dev nD) (t : Fin cfg0.N) : (dats m Bk 0 c).after 3 t = iblk m c 3 t := by dsimp only [dats]
theorem after0_4 (c : Dev nD) (t : Fin cfg0.N) : (dats m Bk 0 c).after 4 t = iblk m c 4 t := by dsimp only [dats]
theorem after0_5 (c : Dev nD) (t : Fin cfg0.N) : (dats m Bk 0 c).after 5 t = iblk m c 5 t := by dsimp only [dats]
theorem after0_6 (c : Dev nD) (t : Fin cfg0.N) : (dats m Bk 0 c).after 6 t = iblk m c 6 t := by dsimp only [dats]
theorem after0_7 (c : Dev nD) (t : Fin cfg0.N) : (dats m Bk 0 c).after 7 t = iblk m c 7 t := by dsimp only [dats]

theorem after0_8 (c : Dev nD) (t : Fin cfg0.N) : (dats m Bk 0 c).after 8 t = (Bk c t).Out := by dsimp only [dats]

theorem before0_0 (c : Dev nD) (t : Fin cfg0.N) (d) : (dats m Bk 0 c).before 0 t d = iblk m c 0 t :=
  before0_0_of m (dats m Bk 0 c) (A_eq m Bk c 0) (after0_0 m Bk c) t d
theorem before0_1 (c : Dev nD) (t : Fin cfg0.N) (d) : (dats m Bk 0 c).before 1 t d = iblk m c 1 t :=
  before0_1_of m (dats m Bk 0 c) (A_eq m Bk c 1) (after0_1 m Bk c) t d
theorem before0_2 (c : Dev nD) (t : Fin cfg0.N) (d) : (dats m Bk 0 c).before 2 t d = iblk m c 2 t :=
  before0_2_of m (dats m Bk 0 c) (A_eq m Bk c 2) (after0_2 m Bk c) t d
theorem before0_3 (c : Dev nD) (t : Fin cfg0.N) (d) : (dats m Bk 0 c).before 3 t d = iblk m c 3 t :=
  before0_3_of m (dats m Bk 0 c) (A_eq m Bk c 3) (after0_3 m Bk c) t d
theorem before0_4 (c : Dev nD) (t : Fin cfg0.N) (d) : (dats m Bk 0 c).before 4 t d = iblk m c 4 t :=
  before0_4_of m (dats m Bk 0 c) (A_eq m Bk c 4) (after0_4 m Bk c) t d
theorem before0_5 (c : Dev nD) (t : Fin cfg0.N) (d) : (dats m Bk 0 c).before 5 t d = iblk m c 5 t :=
  before0_5_of m (dats m Bk 0 c) (A_eq m Bk c 5) (after0_5 m Bk c) t d
theorem before0_6 (c : Dev nD) (t : Fin cfg0.N) (d) : (dats m Bk 0 c).before 6 t d = iblk m c 6 t :=
  before0_6_of m (dats m Bk 0 c) (A_eq m Bk c 6) (after0_6 m Bk c) t d
theorem before0_7 (c : Dev nD) (t : Fin cfg0.N) (d) : (dats m Bk 0 c).before 7 t d = iblk m c 7 t :=
  before0_7_of m (dats m Bk 0 c) (A_eq m Bk c 7) (after0_7 m Bk c) t d

/-- The region's invariant as the scratch arrays at some contents each, and the generator register. -/
theorem ΦA_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r) := by
  unfold Pipeline.ΦA; rw [scopedRest0_eq]; simp only [owns_whole]; try rfl

/-- What the body is called with at point `t`, -/
def bodyPre (c : Dev nD) (t : Fin cfg0.N) : sProp 𝕄 :=
  iprop((dats m Bk 0 c).Φ t.castSucc ∗ (dats m Bk 0 c).owesAt () t.castSucc
    ∗ (∃ d, owns (c : Thread nD τ) (st0_0 t) fullShare ((dats m Bk 0 c).before 0 t d))
    ∗ (∃ d, owns (c : Thread nD τ) (st0_1 t) fullShare ((dats m Bk 0 c).before 1 t d))
    ∗ (∃ d, owns (c : Thread nD τ) (st0_2 t) fullShare ((dats m Bk 0 c).before 2 t d))
    ∗ (∃ d, owns (c : Thread nD τ) (st0_3 t) fullShare ((dats m Bk 0 c).before 3 t d))
    ∗ (∃ d, owns (c : Thread nD τ) (st0_4 t) fullShare ((dats m Bk 0 c).before 4 t d))
    ∗ (∃ d, owns (c : Thread nD τ) (st0_5 t) fullShare ((dats m Bk 0 c).before 5 t d))
    ∗ (∃ d, owns (c : Thread nD τ) (st0_6 t) fullShare ((dats m Bk 0 c).before 6 t d))
    ∗ (∃ d, owns (c : Thread nD τ) (st0_7 t) fullShare ((dats m Bk 0 c).before 7 t d))
    ∗ (∃ d, owns (c : Thread nD τ) (st0_8 t) fullShare ((dats m Bk 0 c).before 8 t d)))

/-- and what it returns. -/
def bodyPost (c : Dev nD) (t : Fin cfg0.N) : sProp 𝕄 :=
  iprop((dats m Bk 0 c).Φ t.succ ∗ (dats m Bk 0 c).owesAt () t.succ
    ∗ owns (c : Thread nD τ) (st0_0 t) fullShare ((dats m Bk 0 c).after 0 t)
    ∗ owns (c : Thread nD τ) (st0_1 t) fullShare ((dats m Bk 0 c).after 1 t)
    ∗ owns (c : Thread nD τ) (st0_2 t) fullShare ((dats m Bk 0 c).after 2 t)
    ∗ owns (c : Thread nD τ) (st0_3 t) fullShare ((dats m Bk 0 c).after 3 t)
    ∗ owns (c : Thread nD τ) (st0_4 t) fullShare ((dats m Bk 0 c).after 4 t)
    ∗ owns (c : Thread nD τ) (st0_5 t) fullShare ((dats m Bk 0 c).after 5 t)
    ∗ owns (c : Thread nD τ) (st0_6 t) fullShare ((dats m Bk 0 c).after 6 t)
    ∗ owns (c : Thread nD τ) (st0_7 t) fullShare ((dats m Bk 0 c).after 7 t)
    ∗ owns (c : Thread nD τ) (st0_8 t) fullShare ((dats m Bk 0 c).after 8 t))

/-- The body at any point. -/
theorem sound_body (hB : AllReads m Bk) (c : Dev nD) (t : Fin cfg0.N) :
    bodyPre m Bk c t ⊢ wp frame (wpE (defs₀ (F := Ideal)) Variants.none c none) Set.univ (bodyAt0 t) (fun _ => bodyPost m Bk c t) := by
  unfold bodyPre bodyPost bodyAt0
  simp only [before0_0, before0_1, before0_2, before0_3, before0_4, before0_5, before0_6, before0_7]
  rw [show (dats m Bk 0 c).Φ t.succ = Pipeline.ΦA spec0 c from rfl,
    show (dats m Bk 0 c).Φ t.castSucc = Pipeline.ΦA spec0 c from rfl,
    show (dats m Bk 0 c).owesAt () t.succ = (dats m Bk 0 c).owesAt () t.castSucc from rfl,
    after0_0, after0_1, after0_2, after0_3, after0_4, after0_5, after0_6, after0_7, after0_8, ΦA_eq]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (val_kernel c _ _ _ _ _ _ _ _ _ _ _ _ _ _ _ _ _ _ _ _ _ _ _ _ _ _ _ _ _ _ _ (Bk c t) (iblk m c 0 t) (iblk m c 1 t) (iblk m c 2 t) (iblk m c 3 t) (iblk m c 4 t) (iblk m c 5 t) (iblk m c 6 t) (iblk m c 7 t) (hB c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := Ideal) .tc cfg0.body (cfg0.bodyArgs t (cfg0.slots t)) = bodyAt0 t := by
  unfold defs₀; rw [Defs.onTc_tc]

theorem body_obligation (hB : AllReads m Bk) (c : Dev nD) :
    BodyObligation (dats m Bk 0 c) (defs₀ (F := Ideal)) Variants.none () Set.univ := fun t => by
  rw [bigSep_W0, bigSep_W0, defs₀_row]
  exact triple_restated (sound_body m Bk hB c t) rfl .rfl fun _ => .rfl

set_option backward.isDefEq.respectTransparency.types false in
set_option maxHeartbeats 800000 in
/-- The run: the arrays of the pipeline end at what the blocks written back leave. -/
theorem run_main (hB : AllReads m Bk) : θ_run defs (onTc (τ := τ) (main (F := Ideal))) (s₀ m ρ) (Pipeline.FramePost cfgs (dats m Bk) 0 (V m)) :=
  Pipeline.θ_run_frame cfgs (dats m Bk) (0 : Fin 1) launch0 defs₀ Variants.none m ρ main
    (hbody := fun c => (body_obligation m Bk hB c).loose) (hshare := fun c => (dats m Bk 0 c).share_full fun _ => rfl)
    (howed := fun _ _ => rfl) (V := V m) (hmain := hmain m Variants.none) (hA := A_eq m Bk) (hΦ := fun _ _ => rfl)

/-- The whole result: row `i` of batch member `b` is written at the point of its block of 128 rows. -/
def GOut (c : Dev nD) : Vec Ideal S3x4096x1280 .bf16 := fun y =>
  (Bk c ⟨(32 * (y 0 : ℕ) + (y 1 : ℕ) / 128) % 96, by rw [show cfg0.N = 96 from N_0]; exact Nat.mod_lt _ (by norm_num)⟩).O ((y 1 : ℕ) % 128) (y 2)

/-- Where each window's block sits at each point. -/
theorem idx : ∀ t : Fin cfg0.N, t.val < 96 ∧ win0_0.index t = ![t.val / 32, 0, t.val % 32, 0] ∧ win0_1.index t = ![t.val / 32, 0, 0, 0]
    ∧ win0_2.index t = ![t.val / 32, 0, 0, 0] ∧ win0_3.index t = ![t.val / 32, t.val % 32, 0, 0] ∧ win0_4.index t = ![t.val / 32, 0, 0]
    ∧ win0_5.index t = ![t.val / 32, 0, 0] ∧ win0_6.index t = ![0, 0] ∧ win0_7.index t = ![0, 0] ∧ win0_8.index t = ![t.val / 32, t.val % 32, 0] :=
  (by decide +kernel : ∀ t : Fin grid0.N, _)

theorem GOut_at (c : Dev nD) (t : Fin cfg0.N) (y : S1x128x1280.Idx) (e : S3x4096x1280.Idx) (h0 : (e 0 : ℕ) = t.val / 32)
    (h1 : (e 1 : ℕ) = t.val % 32 * 128 + y 1) (h2 : (e 2 : ℕ) = y 2) : (Bk c t).Out y = GOut Bk c e := by
  have hy : (y 1 : ℕ) < 128 := (y 1).isLt
  have ht : t.val < 96 := (idx t).1
  unfold Blk.Out GOut
  have e1 : (⟨(32 * (e 0 : ℕ) + (e 1 : ℕ) / 128) % 96, by rw [show cfg0.N = 96 from N_0]; exact Nat.mod_lt _ (by norm_num)⟩ : Fin cfg0.N) = t :=
    Fin.ext (by rw [h0, h1]; show (32 * (t.val / 32) + _) % 96 = t.val; omega)
  rw [e1, h2, show (e 1 : ℕ) % 128 = y 1 by omega]

/-- The result array at the end of the run. -/
theorem final (c : Dev nD) : (dats m Bk 0 c).arrAt 8 cfg0.N = GOut Bk c :=
  (dats m Bk 0 c).arrAt_eq_of_covers 8 (GOut Bk c) (by decide +kernel) fun t hf y => by
    blk_simp
    rw [after0_8]
    refine GOut_at Bk c t y _ ?_ ?_ ?_ <;> blk_simp [idx t]

end Cert.KernelIdeal.Val
-- ==== Proof.Host.lean ====
/- What the kernel's host code hands to the grid points: its rearranged arguments, read at coordinates. -/
module

public import proofs.«01_k».proof.Proof.Run
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

/-- The argument arrays' numbers, by natural-number coordinates: queries (batch member, row, head, depth) and their scales,
    keys and values likewise, and the two mixing matrices. The values and their scales are extended real numbers. -/
structure Args where
  q : ℕ → ℕ → ℕ → ℕ → ℝ
  qs : ℕ → ℕ → ℕ → ℝ
  k : ℕ → ℕ → ℕ → ℕ → ℝ
  ks : ℕ → ℕ → ℕ → ℝ
  v : ℕ → ℕ → ℕ → ℕ → EReal
  vs : ℕ → ℕ → ℕ → EReal
  w6 : ℕ → ℕ → ℝ
  w7 : ℕ → ℕ → ℝ

/-- The softmax scale over the base two, as the kernel folds it into the first mixing matrix. -/
def c1 : ℝ := 15308211 / 134217728

/-- What grid point `t` reads: batch member `t / 32`, rows from `128 * (t % 32)`. -/
def Args.blk (A : Args) (t : ℕ) : Blk where
  q h i d := A.q (t / 32) (128 * (t % 32) + i) h d
  k h d j := A.k (t / 32) j h d
  v m j d := A.v (t / 32) j m d
  qs g l := A.qs (t / 32) (128 * (t % 32) + 8 * g + l / 2 % 8) (l / 16)
  ks h j := A.ks (t / 32) j h
  vs m j := A.vs (t / 32) j m
  w1 r l := A.w6 (l / 16) (r / 8) * c1 * (if r % 8 = l / 2 % 8 then 1 else 0)
  w2 r l := if l < 192 then A.w7 (l / 16) (r / 8) * (if r % 8 = l / 2 % 8 then 1 else 0) else 0

theorem Args.diag (A : Args) (t : ℕ) : (A.blk t).Diag := fun r l h => by
  simp only [Args.blk, if_neg (fun e => h (Eq.symm e)), mul_zero, ite_self]

/-- The queries, keys and values in the kernel's layouts, rounded to the eight-bit format. -/
def qOf (X : Vec Ideal S3x4096x16x160 .f32) : Vec Ideal S3x16x4096x160 .fp8e4m3 :=
  transpose S3x16x4096x160 [0, 2, 1, 3] (Host.convertf (F := Ideal) (φ := .f32) .fp8e4m3 X : Vec Ideal S3x4096x16x160 .fp8e4m3) transposes_S3x4096x16x160_S3x16x4096x160_0_2_1_3
def kOf (X : Vec Ideal S3x4096x16x160 .f32) : Vec Ideal S3x16x160x4096 .fp8e4m3 :=
  transpose S3x16x160x4096 [0, 2, 3, 1] (Host.convertf (F := Ideal) (φ := .f32) .fp8e4m3 X : Vec Ideal S3x4096x16x160 .fp8e4m3) transposes_S3x4096x16x160_S3x16x160x4096_0_2_3_1
def vOf (X : Vec Ideal S3x4096x8x160 .f32) : Vec Ideal S3x8x4096x160 .fp8e4m3 :=
  transpose S3x8x4096x160 [0, 2, 1, 3] (Host.convertf (F := Ideal) (φ := .f32) .fp8e4m3 X : Vec Ideal S3x4096x8x160 .fp8e4m3) transposes_S3x4096x8x160_S3x8x4096x160_0_2_1_3

theorem host3 {X : Vec Ideal S3x4096x16x160 .f32} {f} (h : R4 X f) : R4 (qOf X) (fun b h i d => f b i h d) :=
  R4.of fun x y z w => by
    pointwise [qOf]
    exact h.at _ _ _ _
theorem host4 {X : Vec Ideal S3x4096x16x160 .f32} {f} (h : R4 X f) : R4 (kOf X) (fun b h d i => f b i h d) :=
  R4.of fun x y z w => by
    pointwise [kOf]
    exact h.at _ _ _ _
theorem host5 {X : Vec Ideal S3x4096x8x160 .f32} {f} (h : E4 X f) : E4 (vOf X) (fun b h i d => f b i h d) :=
  E4.of fun x y z w => by
    pointwise [vOf]
    exact h.at _ _ _ _
theorem host6 {X : Vec Ideal S3x4096x16 .f32} {f} (h : R3 X f) :
    R3 (transpose S3x16x4096 [0, 2, 1] X transposes_S3x4096x16_S3x16x4096_0_2_1) (fun b h i => f b i h) :=
  R3.of fun x y z => by
    pointwise
    exact h.at _ _ _
theorem host7 {X : Vec Ideal S3x4096x8 .f32} {f} (h : E3 X f) :
    E3 (transpose S3x8x4096 [0, 2, 1] X transposes_S3x4096x8_S3x8x4096_0_2_1) (fun b h i => f b i h) :=
  E3.of fun x y z => by
    pointwise
    exact h.at _ _ _

/-- The query scales, eight rows of every head to a row group, each twice. -/
def qsOf (X : Vec Ideal S3x4096x16 .f32) : Vec Ideal S3x512x1x256 .f32 :=
  shapeCast S3x512x1x256 (broadcastInDim S3x512x1x128x2 ![0, 1, 2, 3] bcast_S3x512x1x128_S3x512x1x128x2_0_1_2_3
    (shapeCast S3x512x1x128 (transpose S3x512x16x8 [0, 1, 3, 2] (shapeCast S3x512x8x16 X shapeCasts_S3x4096x16_S3x512x8x16)
      transposes_S3x512x8x16_S3x512x16x8_0_1_3_2) shapeCasts_S3x512x16x8_S3x512x1x128)) shapeCasts_S3x512x1x128x2_S3x512x1x256

theorem host12 {X : Vec Ideal S3x4096x16 .f32} {f} (h : R3 X f) :
    R4 (qsOf X) (fun b g _ l => f b (8 * g + l / 2 % 8) (l / 16)) :=
  R4.of fun x y z w => by
    pointwise [qsOf]
    refine (h.at _ _ _).trans ?_
    congr 2 <;> simp only [] <;> omega

/-- The first mixing matrix with the softmax scale in, spread over the eight rows of a group, each weight twice. -/
def w1Of (X : Vec Ideal S16x12 .f32) : Vec Ideal S96x256 .f32 :=
  pad S96x256 ![0, 0] ![0, 0] ![0, 0] (shapeCast S96x256 (broadcastInDim S12x8x16x8x2 ![0, 1, 2, 3, 4] bcast_S12x8x16x8x1_S12x8x16x8x2_0_1_2_3_4
    (mulf (F := Ideal) (φ := .f32)
      (broadcastInDim S12x8x16x8x1 ![0, 1, 2, 3, 4] bcast_S12x1x16x1x1_S12x8x16x8x1_0_1_2_3_4
        (broadcastInDim S12x1x16x1x1 ![0, 2] bcast_S12x16_S12x1x16x1x1_0_2
          (transpose S12x16 [1, 0] (mulf (F := Ideal) (φ := .f32) X (broadcastInDim S16x12 ![] bcast_S_S16x12 (constant (F := Ideal) S_ .f32 0x3DE995B3#32))) transposes_S16x12_S12x16_1_0)))
      (broadcastInDim S12x8x16x8x1 ![0, 1, 2, 3, 4] bcast_S1x8x1x8x1_S12x8x16x8x1_0_1_2_3_4
        (broadcastInDim S1x8x1x8x1 ![1, 3] bcast_S8x8_S1x8x1x8x1_1_3
          (uitofp (F := Ideal) FTy.f32
            (cmpi CmpIPredicate.eq
              (addi (iotaInDim S8x8 32 0) (broadcastInDim S8x8 ![] bcast_S_S8x8 (constantI S_ 32 0#32)))
              (iotaInDim S8x8 32 1))))))) shapeCasts_S12x8x16x8x2_S96x256)
    (sitofp (F := Ideal) FTy.f32 (constantI S_ 32 0#32)) pads_S96x256_S96x256_000_000 h_S_

/-- The second mixing matrix likewise, with zero columns up to 256. -/
def w2Of (X : Vec Ideal S12x8 .f32) : Vec Ideal S64x256 .f32 :=
  pad S64x256 ![0, 0] ![0, 64] ![0, 0]
    (shapeCast S64x192 (broadcastInDim S8x8x12x8x2 ![0, 1, 2, 3, 4] bcast_S8x8x12x8x1_S8x8x12x8x2_0_1_2_3_4
    (mulf (F := Ideal) (φ := .f32)
      (broadcastInDim S8x8x12x8x1 ![0, 1, 2, 3, 4] bcast_S8x1x12x1x1_S8x8x12x8x1_0_1_2_3_4
        (broadcastInDim S8x1x12x1x1 ![0, 2] bcast_S8x12_S8x1x12x1x1_0_2
          (transpose S8x12 [1, 0] X transposes_S12x8_S8x12_1_0)))
      (broadcastInDim S8x8x12x8x1 ![0, 1, 2, 3, 4] bcast_S1x8x1x8x1_S8x8x12x8x1_0_1_2_3_4
        (broadcastInDim S1x8x1x8x1 ![1, 3] bcast_S8x8_S1x8x1x8x1_1_3
          (uitofp (F := Ideal) FTy.f32
            (cmpi CmpIPredicate.eq
              (addi (iotaInDim S8x8 32 0) (broadcastInDim S8x8 ![] bcast_S_S8x8 (constantI S_ 32 0#32)))
              (iotaInDim S8x8 32 1))))))) shapeCasts_S8x8x12x8x2_S64x192)
    (sitofp (F := Ideal) FTy.f32 (constantI S_ 32 0#32)) pads_S64x192_S64x256_000_0640 h_S_

/-- The comparison of two row numbers, as a number. -/
theorem eye {a b : ℕ} (ha : a < 8) (hb : b < 8) :
    (FloatOps.uitofp (F := Ideal) FTy.f32 (IntOp.cmpi CmpIPredicate.eq (IntOp.addi (BitVec.ofNat 32 a) 0#32) (BitVec.ofNat 32 b)))
      = (((if a = b then 1 else 0 : ℝ)) : EReal) := by
  have h : ∀ a b : Fin 8, (IntOp.cmpi CmpIPredicate.eq (IntOp.addi (BitVec.ofNat 32 a) 0#32) (BitVec.ofNat 32 b)).toNat = if a = b then 1 else 0 := by decide
  have h' := h ⟨a, ha⟩ ⟨b, hb⟩
  show (((_ : ℕ) : ℝ) : EReal) = _
  rw [h']
  simp only [Fin.mk.injEq]
  split <;> simp

/-- The scale the host folds into the first mixing matrix. -/
theorem scale_bits : Ideal.ofBits FTy.f32 1038718387#32 = ((c1 : ℝ) : EReal) := by
  simp [Ideal.ofBits, Ideal.ieee, c1]
  rw [← EReal.coe_mul]
  norm_num

theorem host28 {X : Vec Ideal S16x12 .f32} {f} (h : R2 X f) :
    R2 (w1Of X) (fun r l => f (l / 16) (r / 8) * c1 * (if r % 8 = l / 2 % 8 then 1 else 0)) :=
  R2.of fun x y => by
    pointwise [w1Of]
    have e := eye (a := x.val % 8) (b := y.val / 2 % 8) (Nat.mod_lt _ (by norm_num)) (Nat.mod_lt _ (by norm_num))
    refine (congr_arg₂ (· * ·) (congr_arg₂ (· * ·) (h.at _ _) scale_bits) e).trans ?_
    simp only [EReal.coe_mul]

theorem host44 {X : Vec Ideal S12x8 .f32} {f} (h : R2 X f) :
    R2 (w2Of X) (fun r l => if l < 192 then f (l / 16) (r / 8) * (if r % 8 = l / 2 % 8 then 1 else 0) else 0) :=
  R2.of fun x y => by
    pointwise [w2Of]
    have e := eye (a := x.val % 8) (b := y.val / 2 % 8) (Nat.mod_lt _ (by norm_num)) (Nat.mod_lt _ (by norm_num))
    split
    · refine (congr_arg₂ (· * ·) (h.at _ _) e).trans ?_
      simp only [EReal.coe_mul]
    · show (((_ : ℤ) : ℝ) : EReal) = _
      simp

variable (m : (ℓ : Loc nD τ sig) → Buf (Elt Ideal) ℓ)

/-- An argument array of device `c`. -/
abbrev argOf (c : Dev nD) (b : Ref sig .tc) := m ((c : Thread nD τ).loc b)

theorem V_v3 (c : Dev nD) : V m c main_v3 = qOf (argOf m c main_arg0) := by
  simp only [V, hostOps0, hostOps0_1, hostOps0_2, hostOps0_3, List.flatten_cons, List.flatten_nil, List.append_nil, List.cons_append, List.nil_append, StableHlo.after_cons, StableHlo.after_nil]
  after_results_simp
  rfl
theorem V_v4 (c : Dev nD) : V m c main_v4 = kOf (argOf m c main_arg2) := by
  simp only [V, hostOps0, hostOps0_1, hostOps0_2, hostOps0_3, List.flatten_cons, List.flatten_nil, List.append_nil, List.cons_append, List.nil_append, StableHlo.after_cons, StableHlo.after_nil]
  after_results_simp
  rfl
theorem V_v5 (c : Dev nD) : V m c main_v5 = vOf (argOf m c main_arg4) := by
  simp only [V, hostOps0, hostOps0_1, hostOps0_2, hostOps0_3, List.flatten_cons, List.flatten_nil, List.append_nil, List.cons_append, List.nil_append, StableHlo.after_cons, StableHlo.after_nil]
  after_results_simp
  rfl
theorem V_v12 (c : Dev nD) : V m c main_v12 = qsOf (argOf m c main_arg1) := by
  simp only [V, hostOps0, hostOps0_1, hostOps0_2, hostOps0_3, List.flatten_cons, List.flatten_nil, List.append_nil, List.cons_append, List.nil_append, StableHlo.after_cons, StableHlo.after_nil]
  after_results_simp
  rfl
theorem V_v29 (c : Dev nD) : V m c main_v29 = w1Of (argOf m c main_arg6) := by
  simp only [V, hostOps0, hostOps0_1, hostOps0_2, hostOps0_3, List.flatten_cons, List.flatten_nil, List.append_nil, List.cons_append, List.nil_append, StableHlo.after_cons, StableHlo.after_nil]
  after_results_simp
  rfl
theorem V_v44 (c : Dev nD) : V m c main_v44 = w2Of (argOf m c main_arg7) := by
  simp only [V, hostOps0, hostOps0_1, hostOps0_2, hostOps0_3, List.flatten_cons, List.flatten_nil, List.append_nil, List.cons_append, List.nil_append, StableHlo.after_cons, StableHlo.after_nil]
  after_results_simp
  rfl
theorem V_v6 (c : Dev nD) : V m c main_v6 = transpose S3x16x4096 [0, 2, 1] (argOf m c main_arg3) transposes_S3x4096x16_S3x16x4096_0_2_1 := by
  simp only [V, hostOps0, hostOps0_1, hostOps0_2, hostOps0_3, List.flatten_cons, List.flatten_nil, List.append_nil, List.cons_append, List.nil_append, StableHlo.after_cons, StableHlo.after_nil]
  after_results_simp
theorem V_v7 (c : Dev nD) : V m c main_v7 = transpose S3x8x4096 [0, 2, 1] (argOf m c main_arg5) transposes_S3x4096x8_S3x8x4096_0_2_1 := by
  simp only [V, hostOps0, hostOps0_1, hostOps0_2, hostOps0_3, List.flatten_cons, List.flatten_nil, List.append_nil, List.cons_append, List.nil_append, StableHlo.after_cons, StableHlo.after_nil]
  after_results_simp

/-- The eight argument arrays hold the numbers of `A`. -/
structure Args.Holds (A : Args) (X0 X2 : Vec Ideal S3x4096x16x160 .f32) (X4 : Vec Ideal S3x4096x8x160 .f32) (X1 X3 : Vec Ideal S3x4096x16 .f32)
    (X5 : Vec Ideal S3x4096x8 .f32) (X6 : Vec Ideal S16x12 .f32) (X7 : Vec Ideal S12x8 .f32) : Prop where
  q : R4 X0 A.q
  k : R4 X2 A.k
  v : E4 X4 A.v
  qs : R3 X1 A.qs
  ks : R3 X3 A.ks
  vs : E3 X5 A.vs
  w6 : R2 X6 A.w6
  w7 : R2 X7 A.w7

variable (A : Dev nD → Args)
    (hA : ∀ c, (A c).Holds (argOf m c main_arg0) (argOf m c main_arg2) (argOf m c main_arg4) (argOf m c main_arg1) (argOf m c main_arg3) (argOf m c main_arg5) (argOf m c main_arg6) (argOf m c main_arg7))
include hA

/-- At every grid point the kernel's blocks hold what `Args.blk` says. -/
theorem allReads : AllReads m (fun c t => (A c).blk t) := fun c t => {
  q := R4.of fun x y z w => by
    blk_simp [iblk]
    rw [V_v3]
    refine (host3 (hA c).q _).trans (congrArg _ ?_)
    blk_simp [idx t]
    simp only [Args.blk]
    congr 1 <;> omega
  k := R4.of fun x y z w => by
    blk_simp [iblk]
    rw [V_v4]
    refine (host4 (hA c).k _).trans (congrArg _ ?_)
    blk_simp [idx t, Args.blk]
  v := E4.of fun x y z w => by
    blk_simp [iblk]
    rw [V_v5]
    refine (host5 (hA c).v _).trans ?_
    blk_simp [idx t, Args.blk]
  qs := R4.of fun x y z w => by
    blk_simp [iblk]
    rw [V_v12]
    refine (host12 (hA c).qs _).trans (congrArg _ ?_)
    blk_simp [idx t]
    simp only [Args.blk]
    congr 1 <;> omega
  ks := R3.of fun x y z => by
    blk_simp [iblk]
    rw [V_v6]
    refine (host6 (hA c).ks _).trans (congrArg _ ?_)
    blk_simp [idx t, Args.blk]
  vs := E3.of fun x y z => by
    blk_simp [iblk]
    rw [V_v7]
    refine (host7 (hA c).vs _).trans ?_
    blk_simp [idx t, Args.blk]
  w1 := R2.of fun x y => by
    blk_simp [iblk]
    rw [V_v29]
    refine (host28 (hA c).w6 _).trans (congrArg _ ?_)
    blk_simp [idx t, Args.blk]
  w2 := R2.of fun x y => by
    blk_simp [iblk]
    rw [V_v44]
    refine (host44 (hA c).w7 _).trans (congrArg _ ?_)
    blk_simp [idx t, Args.blk]
  diag := (A c).diag t }

end Cert.KernelIdeal.Val
-- ==== Proof.Math.lean ====
/- The kernel's numbers against the reference's: the same numbers. -/
module

public import proofs.«01_k».proof.Proof.Host
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

/-- The reference's scores, with the softmax scale in the queries and all other scales after the product. -/
def Args.s (A : Args) (b h i j : ℕ) : ℝ :=
  (∑ d : Fin 160, A.q b i h d * (c1 * Real.log 2) * A.k b j h d) * A.qs b i h * A.ks b j h

/-- The scores mixed over the heads. -/
def Args.mix (A : Args) (b a i j : ℕ) : ℝ := ∑ h : Fin 16, A.w6 h a * A.s b h i j

/-- The softmax of a row of mixed scores, shifted by `M`. -/
def Args.p (A : Args) (M : ℕ → ℕ → ℕ → ℝ) (b a i j : ℕ) : ℝ :=
  Real.exp (A.mix b a i j - M b a i) / ∑ j' : Fin 4096, Real.exp (A.mix b a i j' - M b a i)

/-- The result: probabilities mixed over the heads, scaled, times the values. -/
def Args.out (A : Args) (M : ℕ → ℕ → ℕ → ℝ) (b i n : ℕ) : EReal :=
  ∑ j : Fin 4096, A.v b j (n / 160) (n % 160) * (((∑ a : Fin 12, A.w7 a (n / 160) * A.p M b a i j : ℝ) : EReal) * A.vs b j (n / 160))

/-- A sum over `8 * n` lanes of which the ones of residue `ρ` count. -/
theorem sum_lanes (n ρ : ℕ) (hρ : ρ < 8) (f : ℕ → ℝ) :
    ∑ t : Fin (n * 8), (f t * if ρ = t % 8 then 1 else 0) = ∑ a : Fin n, f (8 * a + ρ) := by
  rw [← Equiv.sum_comp (finProdFinEquiv (m := n) (n := 8)) (fun t : Fin (n * 8) => f t * if ρ = (t : ℕ) % 8 then 1 else 0), Fintype.sum_prod_type]
  refine Finset.sum_congr rfl fun a _ => ?_
  rw [Finset.sum_eq_single (⟨ρ, hρ⟩ : Fin 8)]
  · have e : ((finProdFinEquiv (m := n) (n := 8) (a, ⟨ρ, hρ⟩) : Fin (n * 8)) : ℕ) = 8 * a + ρ := by simp [finProdFinEquiv]; omega
    rw [e, if_pos (by omega), mul_one]
  · intro r _ hr
    have e : ((finProdFinEquiv (m := n) (n := 8) (a, r) : Fin (n * 8)) : ℕ) = 8 * a + r := by simp [finProdFinEquiv]; omega
    rw [e, if_neg fun h => hr (Fin.ext (by show (r : ℕ) = ρ; omega)), mul_zero]
  · intro h; exact absurd (Finset.mem_univ _) h

/-- The kernel's mixed scores are the reference's over `log 2`. -/
theorem Args.E_eq (A : Args) (t a i j : ℕ) (ha : a < 12) (hi : i < 128) :
    (A.blk t).E (i / 8) (8 * a + i % 8) j * Real.log 2 = A.mix (t / 32) a (128 * (t % 32) + i) j := by
  have h1 : (A.blk t).E (i / 8) (8 * a + i % 8) j
      = ∑ t' : Fin (16 * 8), ((A.w6 ((t' : ℕ) / 8) a * c1 * A.qs (t / 32) (128 * (t % 32) + 8 * (i / 8) + (t' : ℕ) % 8) ((t' : ℕ) / 8)
          * (A.blk t).S ((t' : ℕ) / 8) (8 * (i / 8) + (t' : ℕ) % 8) j) * if i % 8 = (t' : ℕ) % 8 then 1 else 0) := by
    refine Finset.sum_congr rfl fun t' _ => ?_
    change Fin 128 at t'
    have e1 : (2 * (t' : ℕ) + 1) / 16 = (t' : ℕ) / 8 := by omega
    have e2 : (2 * (t' : ℕ) + 1) / 2 % 8 = (t' : ℕ) % 8 := by omega
    have e3 : (8 * a + i % 8) / 8 = a := by omega
    have e4 : (8 * a + i % 8) % 8 = i % 8 := by omega
    simp only [Args.blk, e1, e2, e3, e4]
    ring
  rw [h1, sum_lanes 16 (i % 8) (Nat.mod_lt _ (by norm_num)) (fun l => A.w6 (l / 8) a * c1 * A.qs (t / 32) (128 * (t % 32) + 8 * (i / 8) + l % 8) (l / 8)
          * (A.blk t).S (l / 8) (8 * (i / 8) + l % 8) j), Args.mix, Finset.sum_mul]
  refine Finset.sum_congr rfl fun h _ => ?_
  have e1 : (8 * (h : ℕ) + i % 8) / 8 = h := by omega
  have e2 : (8 * (h : ℕ) + i % 8) % 8 = i % 8 := by omega
  have e3 : 128 * (t % 32) + 8 * (i / 8) + i % 8 = 128 * (t % 32) + i := by omega
  have e4 : 8 * (i / 8) + i % 8 = i := by omega
  have e5 : ∑ d : Fin 160, A.q (t / 32) (128 * (t % 32) + i) h d * (c1 * Real.log 2) * A.k (t / 32) j h d
      = (c1 * Real.log 2) * ∑ d : Fin 160, A.q (t / 32) (128 * (t % 32) + i) h d * A.k (t / 32) j h d := by
    rw [Finset.mul_sum]; exact Finset.sum_congr rfl fun d _ => by ring
  simp only [e1, e2, e3, e4, Args.s, e5, Blk.S, Args.blk]
  ring

/-- Powers of two are exponentials. -/
theorem rpow_two (x : ℝ) : Real.rpow 2 x = Real.exp (x * Real.log 2) := by
  show (2 : ℝ) ^ x = _
  rw [Real.rpow_def_of_pos (by norm_num), mul_comm]

/-- A softmax does not depend on its shift. -/
theorem soft_shift (f : ℕ → ℝ) (M : ℝ) (j : ℕ) :
    Real.exp (f j - M) / ∑ j' : Fin 4096, Real.exp (f j' - M) = Real.exp (f j) / ∑ j' : Fin 4096, Real.exp (f j') := by
  simp only [Real.exp_sub]
  rw [← Finset.sum_div, div_div_div_cancel_right₀ (Real.exp_ne_zero M)]

theorem Args.A_eq (A : Args) (M : ℕ → ℕ → ℕ → ℝ) (t a i j : ℕ) (ha : a < 12) (hi : i < 128) :
    (A.blk t).A (i / 8) (8 * a + i % 8) j = A.p M (t / 32) a (128 * (t % 32) + i) j := by
  rw [Args.p, soft_shift (fun j => A.mix (t / 32) a (128 * (t % 32) + i) j)]
  simp only [Blk.A, rpow_two, A.E_eq t a i _ ha hi]

theorem Args.Pr_eq (A : Args) (M : ℕ → ℕ → ℕ → ℝ) (t o i j : ℕ) (hi : i < 128) :
    (A.blk t).Pr o i j = ((∑ a : Fin 12, A.w7 a o * A.p M (t / 32) a (128 * (t % 32) + i) j : ℝ) : EReal) * A.vs (t / 32) j o := by
  have h1 : ∑ t' : Fin 96, (A.blk t).w2 (o * 8 + i % 8) (2 * t' + 1) * (A.blk t).A (i / 8) t' j
      = ∑ t' : Fin (12 * 8), ((A.w7 ((t' : ℕ) / 8) o * (A.blk t).A (i / 8) t' j) * if i % 8 = (t' : ℕ) % 8 then 1 else 0) := by
    refine Finset.sum_congr rfl fun t' _ => ?_
    change Fin 96 at t'
    have e0 : 2 * (t' : ℕ) + 1 < 192 := by omega
    have e1 : (2 * (t' : ℕ) + 1) / 16 = (t' : ℕ) / 8 := by omega
    have e2 : (2 * (t' : ℕ) + 1) / 2 % 8 = (t' : ℕ) % 8 := by omega
    have e3 : (o * 8 + i % 8) / 8 = o := by omega
    have e4 : (o * 8 + i % 8) % 8 = i % 8 := by omega
    have e : (A.blk t).w2 (o * 8 + i % 8) (2 * t' + 1) = A.w7 ((t' : ℕ) / 8) o * if i % 8 = (t' : ℕ) % 8 then 1 else 0 := by
      simp only [Args.blk, if_pos e0, e1, e2, e3, e4]
    rw [e]
    ring
  rw [Blk.Pr, h1, sum_lanes 12 (i % 8) (Nat.mod_lt _ (by norm_num)) (fun l => A.w7 (l / 8) o * (A.blk t).A (i / 8) l j)]
  refine congrArg (fun e : ℝ => (e : EReal) * A.vs (t / 32) j o) (Finset.sum_congr rfl fun a _ => ?_)
  have e1 : (8 * (a : ℕ) + i % 8) / 8 = a := by omega
  show A.w7 ((8 * (a : ℕ) + i % 8) / 8) o * _ = _
  rw [e1, A.A_eq M t a i j a.isLt hi]

/-- A sum over the columns, block by block. -/
theorem sum_cols (f : ℕ → EReal) : ∑ b : Fin 16, ∑ j : Fin 256, f (256 * b + j) = ∑ j : Fin 4096, f j := by
  rw [show ∑ j : Fin 4096, f j = ∑ p : Fin 16 × Fin 256, f (finProdFinEquiv (m := 16) (n := 256) p) from
    (Equiv.sum_comp (finProdFinEquiv (m := 16) (n := 256)) (fun j : Fin (16 * 256) => f j)).symm, Fintype.sum_prod_type]
  refine Finset.sum_congr rfl fun b _ => Finset.sum_congr rfl fun x _ => congrArg f ?_
  simp [finProdFinEquiv]; omega

/-- The kernel's result at a grid point is the reference's there. -/
theorem Args.O_eq (A : Args) (M : ℕ → ℕ → ℕ → ℝ) (t i n : ℕ) (hi : i < 128) :
    (A.blk t).O i n = A.out M (t / 32) (128 * (t % 32) + i) n := by
  rw [Blk.O, sum_cols (fun j => (A.blk t).Pr (n / 160) i j * (A.blk t).v (n / 160) j (n % 160))]
  refine Finset.sum_congr rfl fun j _ => ?_
  rw [A.Pr_eq M t _ i j hi, mul_comm]
  rfl

end Cert.KernelIdeal.Val
-- ==== Proof.Ref.lean ====
/- The reference's operations after its cast, stage by stage: each stage's array read at coordinates. -/
module

public import proofs.«01_k».proof.Proof.Pay3
public import proofs.«01_k».proof.Proof.Gen.ReferenceIdeal.Frame
public import Idealize.ShloMosaic.Lib.Claim
public import Idealize.ShloMosaic.Lib.Pointwise
public import Idealize.ShloMosaic.Lib.Pipeline.ValueKit

@[expose] public section

set_option maxRecDepth 16384

noncomputable section

namespace Cert.ReferenceIdeal.Val

open Cert.ReferenceIdeal Cert.ReferenceIdeal.Gen
open Cert.KernelIdeal.Val (E2 E3 E4 R2 R3 R4 coe_sum neg_inf)
open Idealize.ShloMosaic Idealize.ShloMosaic.TcCoe Idealize.ShloMosaic.Tactic
open Idealize.SL Idealize.SL.Sem
open Idealize.ShloMosaic.Pipeline (Dat Cfg Window)

/-- The scores with all three scales, before mixing. -/
def scores (q k : Vec Ideal S3x4096x16x160 .f32) (X1 X3 : Vec Ideal S3x4096x16 .f32) : Vec Ideal S3x16x4096x4096 .f32 :=
  mulf (F := Ideal) (φ := .f32)
    (mulf (F := Ideal) (φ := .f32)
      (Host.dotGeneral (F := Ideal) (φ₁ := .f32) (φ₂ := .f32) dot_S3x4096x16x160_S3x4096x16x160_S3x16x4096x4096_3_3_1_1_02_02 (some .fp32) q k)
      (broadcastInDim S3x16x4096x4096 ![0, 1, 2, 3] bcast_S3x16x4096x1_S3x16x4096x4096_0_1_2_3
        (broadcastInDim S3x16x4096x1 ![0, 1, 2] bcast_S3x16x4096_S3x16x4096x1_0_1_2
          (transpose S3x16x4096 [0, 2, 1] X1 transposes_S3x4096x16_S3x16x4096_0_2_1))))
    (broadcastInDim S3x16x4096x4096 ![0, 1, 2, 3] bcast_S3x16x1x4096_S3x16x4096x4096_0_1_2_3
      (broadcastInDim S3x16x1x4096 ![0, 1, 3] bcast_S3x16x4096_S3x16x1x4096_0_1_3
        (transpose S3x16x4096 [0, 2, 1] X3 transposes_S3x4096x16_S3x16x4096_0_2_1)))

/-- The first mix of the heads. -/
def mixed (X6 : Vec Ideal S16x12 .f32) (s : Vec Ideal S3x16x4096x4096 .f32) : Vec Ideal S3x12x4096x4096 .f32 :=
  transpose S3x12x4096x4096 [1, 0, 2, 3]
    (Host.dotGeneral (F := Ideal) (φ₁ := .f32) (φ₂ := .f32) dot_S16x12_S3x16x4096x4096_S12x3x4096x4096_0_1_1_023_n_n (some .fp32) X6 s)
    transposes_S12x3x4096x4096_S3x12x4096x4096_1_0_2_3

/-- The largest entry of every row. -/
def rowMax (a : Vec Ideal S3x12x4096x4096 .f32) : Vec Ideal S3x12x4096 .f32 :=
  Host.reduce (FloatOps.maximumf (F := Ideal) (φ := .f32)) a (constant (F := Ideal) S_ .f32 0xFF800000#32) reducesTo_S3x12x4096x4096_S3x12x4096_d3 h_S_

/-- The softmax's exponentials, shifted by the row's largest entry. -/
def expd (a : Vec Ideal S3x12x4096x4096 .f32) (r : Vec Ideal S3x12x4096 .f32) : Vec Ideal S3x12x4096x4096 .f32 :=
  Host.exp (F := Ideal) (φ := .f32) (subf (F := Ideal) (φ := .f32) a
    (broadcastInDim S3x12x4096x4096 ![0, 1, 2, 3] bcast_S3x12x4096x1_S3x12x4096x4096_0_1_2_3
      (broadcastInDim S3x12x4096x1 ![0, 1, 2] bcast_S3x12x4096_S3x12x4096x1_0_1_2
        (maximumf (F := Ideal) (φ := .f32)
          (broadcastInDim S3x12x4096 ![] bcast_S_S3x12x4096 (constant (F := Ideal) S_ .f32 0xFF800000#32))
          r))))

/-- The exponentials divided by their row's sum. -/
def normed (e : Vec Ideal S3x12x4096x4096 .f32) : Vec Ideal S3x12x4096x4096 .f32 :=
  Host.divf (F := Ideal) (φ := .f32) e
    (broadcastInDim S3x12x4096x4096 ![0, 1, 2, 3] bcast_S3x12x4096x1_S3x12x4096x4096_0_1_2_3
      (broadcastInDim S3x12x4096x1 ![0, 1, 2] bcast_S3x12x4096_S3x12x4096x1_0_1_2
        (Host.reduceAdd (F := Ideal) (φ := .f32) e (constant (F := Ideal) S_ .f32 0x00000000#32) reducesTo_S3x12x4096x4096_S3x12x4096_d3 h_S_)))

/-- The second mix of the heads, with the value scales. -/
def weighed (X7 : Vec Ideal S12x8 .f32) (X5 : Vec Ideal S3x4096x8 .f32) (p : Vec Ideal S3x12x4096x4096 .f32) : Vec Ideal S3x8x4096x4096 .bf16 :=
  truncf (F := Ideal) (φ := .f32) .bf16 (mulf (F := Ideal) (φ := .f32)
    (transpose S3x8x4096x4096 [1, 0, 2, 3]
      (Host.dotGeneral (F := Ideal) (φ₁ := .f32) (φ₂ := .f32) dot_S12x8_S3x12x4096x4096_S8x3x4096x4096_0_1_1_023_n_n (some .fp32) X7 p)
      transposes_S8x3x4096x4096_S3x8x4096x4096_1_0_2_3)
    (broadcastInDim S3x8x4096x4096 ![0, 1, 2, 3] bcast_S3x8x1x4096_S3x8x4096x4096_0_1_2_3
      (broadcastInDim S3x8x1x4096 ![0, 1, 3] bcast_S3x8x4096_S3x8x1x4096_0_1_3
        (transpose S3x8x4096 [0, 2, 1] X5 transposes_S3x4096x8_S3x8x4096_0_2_1)))) bitsLt_bf16_f32

/-- The weighted sums of the value rows, in the result's layout. -/
def result (v : Vec Ideal S3x4096x8x160 .bf16) (w : Vec Ideal S3x8x4096x4096 .bf16) : Vec Ideal S3x4096x1280 .bf16 :=
  shapeCast S3x4096x1280 (truncf (F := Ideal) (φ := .f32) .bf16 (transpose S3x4096x8x160 [0, 3, 1, 2]
    (Host.dotGeneral (F := Ideal) (φ₁ := .bf16) (φ₂ := .bf16) dot_S3x4096x8x160_S3x8x4096x4096_S3x8x160x4096_1_3_3_2_02_01 none v w)
    transposes_S3x8x160x4096_S3x4096x8x160_0_3_1_2) bitsLt_bf16_f32) shapeCasts_S3x4096x8x160_S3x4096x1280

theorem scores_R {q k : Vec Ideal S3x4096x16x160 .f32} {X1 X3 : Vec Ideal S3x4096x16 .f32} {fq fk f1 f3} (hq : R4 q fq) (hk : R4 k fk)
    (h1 : R3 X1 f1) (h3 : R3 X3 f3) :
    R4 (scores q k X1 X3) (fun b h i j => (∑ d : Fin 160, fq b i h d * fk b j h d) * f1 b i h * f3 b j h) :=
  R4.of fun x y z w => by
    pointwise [scores]
    simp only [hq.at, hk.at, h1.at, h3.at, ← EReal.coe_mul, coe_sum]

theorem mixed_R {X6 : Vec Ideal S16x12 .f32} {s : Vec Ideal S3x16x4096x4096 .f32} {f6 fs} (h6 : R2 X6 f6) (hs : R4 s fs) :
    R4 (mixed X6 s) (fun b a i j => ∑ h : Fin 16, f6 h a * fs b h i j) :=
  R4.of fun x y z w => by
    pointwise [mixed]
    simp only [h6.at, hs.at, ← EReal.coe_mul, coe_sum]

/-- The largest of at least one real number is a real number. -/
theorem fold_real {ι : Type} [DecidableEq ι] (f : ι → EReal) (hf : ∀ k, ∃ x : ℝ, f k = (x : EReal)) (s : Finset ι) (hs : s.Nonempty) :
    ∃ x : ℝ, s.fold max ⊥ f = (x : EReal) := by
  induction hs using Finset.Nonempty.cons_induction with
  | singleton a =>
    obtain ⟨x, hx⟩ := hf a
    exact ⟨x, by rw [Finset.fold_singleton, hx]; simp⟩
  | cons a s ha hs ih =>
    obtain ⟨x, hx⟩ := hf a
    obtain ⟨y, hy⟩ := ih
    exact ⟨max x y, by rw [Finset.fold_cons, hx, hy]; exact (Cert.KernelIdeal.Val.coe_max x y).symm⟩

theorem reduce_real {s t u : Shape} {a : Fin s.rank} (x : s.Idx → EReal) (init : u.Idx → EReal) (h' : s.ReducesTo [a] t) (h : s.Reduces [a] t)
    (hu : 0 < u.numel) (hi : init (Shape.Idx.first hu) = ⊥) (hn : 0 < s.size a) (hx : ∀ i, ∃ r : ℝ, x i = (r : EReal)) (j : t.Idx) :
    ∃ r : ℝ, Host.reduce (FloatOps.maximumf (F := Ideal) (φ := .f32)) x init h' hu j = (r : EReal) := by
  rw [Host.reduce_eq_fold_single _ x init h' h hu j, hi]
  exact fold_real _ (fun k => hx _) _ ⟨⟨0, hn⟩, Finset.mem_univ _⟩

theorem rowMax_real (a : Vec Ideal S3x12x4096x4096 .f32) (h : ∀ i, ∃ r : ℝ, a i = (r : EReal)) (j) : ∃ r : ℝ, rowMax a j = (r : EReal) :=
  reduce_real a _ reducesTo_S3x12x4096x4096_S3x12x4096_d3 (by decide) h_S_ neg_inf (by decide) h j

theorem expd_R {a : Vec Ideal S3x12x4096x4096 .f32} {r : Vec Ideal S3x12x4096 .f32} {f} (h : R4 a f) (hr : ∀ j, ∃ x : ℝ, r j = (x : EReal)) :
    ∃ M : ℕ → ℕ → ℕ → ℝ, R4 (expd a r) (fun b r i j => Real.exp (f b r i j - M b r i)) := by
  choose M hM using hr
  refine ⟨fun b r i => if h : b < 3 ∧ r < 12 ∧ i < 4096 then M (ix3 ⟨b, h.1⟩ ⟨r, h.2.1⟩ ⟨i, h.2.2⟩) else 0, R4.of fun x y z w => ?_⟩
  pointwise [expd]
  rw [h.at, hM, neg_inf]
  have e : max (⊥ : EReal) (M (ix3 x y z) : EReal) = (M (ix3 x y z) : EReal) := by simp
  rw [e, ← EReal.coe_sub]
  rfl

theorem normed_R {e : Vec Ideal S3x12x4096x4096 .f32} {f} (h : R4 e f) (hf : ∀ b r i, 0 < ∑ j : Fin 4096, f b r i j) :
    R4 (normed e) (fun b r i j => f b r i j / ∑ j' : Fin 4096, f b r i j') :=
  R4.of fun x y z w => by
    pointwise [normed]
    simp only [h.at, coe_sum]
    exact (Ideal.div_coe (hf _ _ _).ne' _).trans (by rw [← EReal.coe_mul, mul_one_div])

theorem weighed_R {X7 : Vec Ideal S12x8 .f32} {X5 : Vec Ideal S3x4096x8 .f32} {p : Vec Ideal S3x12x4096x4096 .f32} {f7 f5 fp} (h7 : R2 X7 f7) (h5 : E3 X5 f5)
    (hp : R4 p fp) :
    E4 (weighed X7 X5 p) (fun b m i j => ((∑ a : Fin 12, f7 a m * fp b a i j : ℝ) : EReal) * f5 b j m) :=
  E4.of fun x y z w => by
    pointwise [weighed]
    simp only [h7.at, h5.at, hp.at, ← EReal.coe_mul, coe_sum]

theorem result_R {v : Vec Ideal S3x4096x8x160 .bf16} {w : Vec Ideal S3x8x4096x4096 .bf16} {fv fw} (hv : E4 v fv) (hw : E4 w fw) :
    E3 (result v w) (fun b i n => ∑ j : Fin 4096, fv b j (n / 160) (n % 160) * fw b (n / 160) i j) :=
  E3.of fun x y z => by
    pointwise [result]
    simp only [hv.at, hw.at]

end Cert.ReferenceIdeal.Val
-- ==== Proof.RefRun.lean ====
/- The reference's run: its result array is `refOut` of its argument arrays. -/
module

public import proofs.«01_k».proof.Proof.Ref
public import proofs.«01_k».proof.Proof.Gen.ReferenceIdeal.Frame
public import proofs.«01_k».proof.Proof.Gen.ReferenceIdeal.Points
public import Idealize.ShloMosaic.Lib.Claim
public import Idealize.ShloMosaic.Lib.Pointwise
public import Idealize.ShloMosaic.Lib.Pipeline.ValueKit

@[expose] public section

set_option maxRecDepth 16384

noncomputable section

namespace Cert.ReferenceIdeal.Val

open Cert.ReferenceIdeal Cert.ReferenceIdeal.Gen
open Cert.KernelIdeal.Val (R2 R3 R4 coe_sum neg_inf)
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- An argument array of device `c`. -/
abbrev argOf (c : Dev nD) (b : Ref sig .tc) := m ((c : Thread nD τ).loc b)

def scaled (X : Vec Ideal S3x4096x16x160 .f32) : Vec Ideal S3x4096x16x160 .f32 := k0_pay1 (F := Ideal) (Host.convertf (F := Ideal) (φ := .f32) .fp8e4m3 X)
def widened (X : Vec Ideal S3x4096x16x160 .f32) : Vec Ideal S3x4096x16x160 .f32 := k0_pay2 (F := Ideal) (Host.convertf (F := Ideal) (φ := .f32) .fp8e4m3 X)
def widenedV (X : Vec Ideal S3x4096x8x160 .f32) : Vec Ideal S3x4096x8x160 .bf16 := k0_pay3 (F := Ideal) (Host.convertf (F := Ideal) (φ := .f32) .fp8e4m3 X)

theorem V_v0 (c : Dev nD) : V m c main_v0 = Host.convertf (F := Ideal) (φ := .f32) .fp8e4m3 (argOf m c main_arg0) := by
  simp only [V, V0, hostOps0, List.flatten_cons, List.flatten_nil, List.append_nil, List.cons_append, List.nil_append, StableHlo.after_cons, StableHlo.after_nil]
  after_results_simp

theorem V_v1 (c : Dev nD) : V m c main_v1 = Host.convertf (F := Ideal) (φ := .f32) .fp8e4m3 (argOf m c main_arg2) := by
  simp only [V, V0, hostOps0, List.flatten_cons, List.flatten_nil, List.append_nil, List.cons_append, List.nil_append, StableHlo.after_cons, StableHlo.after_nil]
  after_results_simp

theorem V_v2 (c : Dev nD) : V m c main_v2 = Host.convertf (F := Ideal) (φ := .f32) .fp8e4m3 (argOf m c main_arg4) := by
  simp only [V, V0, hostOps0, List.flatten_cons, List.flatten_nil, List.append_nil, List.cons_append, List.nil_append, StableHlo.after_cons, StableHlo.after_nil]
  after_results_simp

theorem idx : ∀ t : Fin cfg0.N, win0_0.index t = ![0, 0, 0, 0] ∧ win0_1.index t = ![0, 0, 0, 0] ∧ win0_2.index t = ![0, 0, 0, 0] :=
  (by decide +kernel : ∀ t : Fin grid0.N, _)

theorem blk0 (c : Dev nD) (t : Fin cfg0.N) : (iblk m c 0 t : Vec Ideal S3x4096x16x160 .fp8e4m3) = V m c main_v0 := by
  funext y
  blk_simp [iblk]
  generalize V m c main_v0 = X
  blk_ext [idx t]

theorem blk1 (c : Dev nD) (t : Fin cfg0.N) : (iblk m c 1 t : Vec Ideal S3x4096x16x160 .fp8e4m3) = V m c main_v1 := by
  funext y
  blk_simp [iblk]
  generalize V m c main_v1 = X
  blk_ext [idx t]

theorem blk2 (c : Dev nD) (t : Fin cfg0.N) : (iblk m c 2 t : Vec Ideal S3x4096x8x160 .fp8e4m3) = V m c main_v2 := by
  funext y
  blk_simp [iblk]
  generalize V m c main_v2 = X
  blk_ext [idx t]

theorem final3 (c : Dev nD) : (dats (F := Ideal) m 0 c).arrAt 3 (cfgs 0).N = scaled (argOf m c main_arg0) := by
  refine (dats m 0 c).arrAt_eq_of_after_last 3 t0_0 (by decide +kernel) _ fun j => ?_
  blk_simp
  rw [after0_3]; frame_out
  rw [blk0, V_v0]
  rfl

theorem final4 (c : Dev nD) : (dats (F := Ideal) m 0 c).arrAt 4 (cfgs 0).N = widened (argOf m c main_arg2) := by
  refine (dats m 0 c).arrAt_eq_of_after_last 4 t0_0 (by decide +kernel) _ fun j => ?_
  blk_simp
  rw [after0_4]; frame_out
  rw [blk1, V_v1]
  rfl

theorem final5 (c : Dev nD) : (dats (F := Ideal) m 0 c).arrAt 5 (cfgs 0).N = widenedV (argOf m c main_arg4) := by
  refine (dats m 0 c).arrAt_eq_of_after_last 5 t0_0 (by decide +kernel) _ fun j => ?_
  blk_simp
  rw [after0_5]; frame_out
  rw [blk2, V_v2]
  rfl

/-- The reference's result over its argument arrays. -/
def refOut (X0 X2 : Vec Ideal S3x4096x16x160 .f32) (X4 : Vec Ideal S3x4096x8x160 .f32) (X1 X3 : Vec Ideal S3x4096x16 .f32)
    (X5 : Vec Ideal S3x4096x8 .f32) (X6 : Vec Ideal S16x12 .f32) (X7 : Vec Ideal S12x8 .f32) : Vec Ideal S3x4096x1280 .bf16 :=
  result (widenedV X4) (weighed X7 X5 (normed (expd (mixed X6 (scores (scaled X0) (widened X2) X1 X3)) (rowMax (mixed X6 (scores (scaled X0) (widened X2) X1 X3))))))

theorem tail (c : Dev nD) : Pipeline.afterTail₀ cfgs (dats (F := Ideal) m) 0 (V0 m) [hostOps1] c main_v36
    = refOut (argOf m c main_arg0) (argOf m c main_arg2) (argOf m c main_arg4) (argOf m c main_arg1) (argOf m c main_arg3) (argOf m c main_arg5) (argOf m c main_arg6) (argOf m c main_arg7) := by
  have h0 : ∀ b, (∀ w, Pipeline.arrRef spec0 w ≠ b) → Pipeline.withArrays (cfgs 0).spec c (V0 m c) (fun w => (dats (F := Ideal) m 0 c).arrAt w (cfgs 0).N) (Proc.devRef .tc b) = V m c b :=
    fun b hb => Pipeline.withArrays_of_ne _ c (V0 m c) _ b hb
  have hw : ∀ w, Pipeline.withArrays (cfgs 0).spec c (V0 m c) (fun w => (dats (F := Ideal) m 0 c).arrAt w (cfgs 0).N) (Proc.devRef .tc (Pipeline.arrRef spec0 w)) = (dats (F := Ideal) m 0 c).arrAt w (cfgs 0).N :=
    fun w => Pipeline.withArrays_arr _ (by decide) c (V0 m c) _ w
  have e1 : Pipeline.withArrays (cfgs 0).spec c (V0 m c) (fun w => (dats (F := Ideal) m 0 c).arrAt w (cfgs 0).N) (Proc.tc.devRef main_arg1) = argOf m c main_arg1 := (h0 main_arg1 (by decide)).trans (V_main_arg1 m c)
  have e3 : Pipeline.withArrays (cfgs 0).spec c (V0 m c) (fun w => (dats (F := Ideal) m 0 c).arrAt w (cfgs 0).N) (Proc.tc.devRef main_arg3) = argOf m c main_arg3 := (h0 main_arg3 (by decide)).trans (V_main_arg3 m c)
  have e5 : Pipeline.withArrays (cfgs 0).spec c (V0 m c) (fun w => (dats (F := Ideal) m 0 c).arrAt w (cfgs 0).N) (Proc.tc.devRef main_arg5) = argOf m c main_arg5 := (h0 main_arg5 (by decide)).trans (V_main_arg5 m c)
  have e6 : Pipeline.withArrays (cfgs 0).spec c (V0 m c) (fun w => (dats (F := Ideal) m 0 c).arrAt w (cfgs 0).N) (Proc.tc.devRef main_arg6) = argOf m c main_arg6 := (h0 main_arg6 (by decide)).trans (V_main_arg6 m c)
  have e7 : Pipeline.withArrays (cfgs 0).spec c (V0 m c) (fun w => (dats (F := Ideal) m 0 c).arrAt w (cfgs 0).N) (Proc.tc.devRef main_arg7) = argOf m c main_arg7 := (h0 main_arg7 (by decide)).trans (V_main_arg7 m c)
  have eq : Pipeline.withArrays (cfgs 0).spec c (V0 m c) (fun w => (dats (F := Ideal) m 0 c).arrAt w (cfgs 0).N) (Proc.tc.devRef main_v3_0) = scaled (argOf m c main_arg0) := (hw 3).trans (final3 m c)
  have ek : Pipeline.withArrays (cfgs 0).spec c (V0 m c) (fun w => (dats (F := Ideal) m 0 c).arrAt w (cfgs 0).N) (Proc.tc.devRef main_v3_1) = widened (argOf m c main_arg2) := (hw 4).trans (final4 m c)
  have ev : Pipeline.withArrays (cfgs 0).spec c (V0 m c) (fun w => (dats (F := Ideal) m 0 c).arrAt w (cfgs 0).N) (Proc.tc.devRef main_v3_2) = widenedV (argOf m c main_arg4) := (hw 5).trans (final5 m c)
  unfold Pipeline.afterTail₀
  generalize Pipeline.withArrays (cfgs 0).spec c (V0 m c) (fun w => (dats (F := Ideal) m 0 c).arrAt w (cfgs 0).N) = W at e1 e3 e5 e6 e7 eq ek ev ⊢
  simp only [hostOps1, List.flatten_cons, List.flatten_nil, List.append_nil, List.cons_append, List.nil_append, StableHlo.after_cons, StableHlo.after_nil]
  after_results_simp
  rw [e1, e3, e5, e6, e7, eq, ek, ev]
  simp only [refOut, result, weighed, normed, expd, rowMax, mixed, scores]
  rfl

end Cert.ReferenceIdeal.Val
-- ==== Proof.RefVal.lean ====
/- The numbers of the reference's result array. -/
module

public import proofs.«01_k».proof.Proof.RefRun
public import proofs.«01_k».proof.Proof.Math
public import proofs.«01_k».proof.Proof.Gen.ReferenceIdeal.Frame
public import proofs.«01_k».proof.Proof.Gen.ReferenceIdeal.Points
public import Idealize.ShloMosaic.Lib.Claim
public import Idealize.ShloMosaic.Lib.Pointwise
public import Idealize.ShloMosaic.Lib.Pipeline.ValueKit

@[expose] public section

set_option maxRecDepth 16384

noncomputable section

namespace Cert.ReferenceIdeal.Val

open Cert.ReferenceIdeal Cert.ReferenceIdeal.Gen
open Cert.KernelIdeal.Val (E3 E4 R2 R3 R4 coe_sum neg_inf Args c1)
open Idealize.ShloMosaic Idealize.ShloMosaic.TcCoe Idealize.ShloMosaic.Tactic
open Idealize.SL Idealize.SL.Sem
open Idealize.ShloMosaic.Pipeline (Dat Cfg Window)

theorem scaled_R {X : Vec Ideal S3x4096x16x160 .f32} {f} (h : R4 X f) : R4 (scaled X) (fun b i h d => f b i h d * (c1 * Real.log 2)) :=
  R4.of fun x y z w => by
    pointwise [scaled, k0_pay1]
    rw [EReal.coe_mul]
    exact congrArg₂ (· * ·) (h.at x y z w) rfl

theorem widened_R {X : Vec Ideal S3x4096x16x160 .f32} {f} (h : R4 X f) : R4 (widened X) f :=
  R4.of fun x y z w => by
    pointwise [widened, k0_pay2]
    exact h.at x y z w

theorem widenedV_R {X : Vec Ideal S3x4096x8x160 .f32} {f} (h : E4 X f) : E4 (widenedV X) f :=
  E4.of fun x y z w => by
    pointwise [widenedV, k0_pay3]
    exact h.at x y z w

/-- The reference's result from argument arrays that hold the numbers of `A`. -/
theorem refOut_R {A : Args} {X0 X2 : Vec Ideal S3x4096x16x160 .f32} {X4 : Vec Ideal S3x4096x8x160 .f32} {X1 X3 : Vec Ideal S3x4096x16 .f32}
    {X5 : Vec Ideal S3x4096x8 .f32} {X6 : Vec Ideal S16x12 .f32} {X7 : Vec Ideal S12x8 .f32} (h : A.Holds X0 X2 X4 X1 X3 X5 X6 X7) :
    ∃ M, E3 (refOut X0 X2 X4 X1 X3 X5 X6 X7) (fun b i n => A.out M b i n) := by
  have hs := scores_R (scaled_R h.q) (widened_R h.k) h.qs h.ks
  have hm := mixed_R h.w6 hs
  obtain ⟨M, he⟩ := expd_R hm (rowMax_real _ fun y => ⟨_, hm y⟩)
  have hn := normed_R he fun b r i => Finset.sum_pos (fun j _ => Real.exp_pos _) ⟨0, Finset.mem_univ _⟩
  exact ⟨M, result_R (widenedV_R h.v) (weighed_R h.w7 h.vs hn)⟩

end Cert.ReferenceIdeal.Val
-- ==== Proof.Finite.lean ====
/- Arrays of finite numbers hold real numbers, and where the precondition asks for them the kernel's result array is the reference's. -/
module

public import proofs.«01_k».proof.Defs
public import proofs.«01_k».proof.Proof.Math
public import proofs.«01_k».proof.Proof.RefVal
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

/-- The shape relations the precondition states. -/
theorem preFacts : Cert.Pre_finite.Facts where
  bcast_S_S3x4096x16x160 := by decide
  bcast_S_S3x4096x16 := by decide
  bcast_S_S16x12 := by decide
  bcast_S_S12x8 := by decide

/-- Where the precondition's comparison is true, the array holds real numbers. -/
theorem real_of_lt {s : Shape} (hb : Cert.Pre_finite.S_.BroadcastsInDim s ![]) (X : Vec Ideal s .f32)
    (h : cmpf .olt (Host.absf X) (broadcastInDim s ![] hb (constant (F := Ideal) Cert.Pre_finite.S_ .f32 0x7F800000#32)) = fun _ => 1#1) (y : s.Idx) :
    ∃ r : ℝ, X y = (r : EReal) := by
  have e : Ideal.cmp .olt (max (X y : EReal) (-(X y : EReal))) (Ideal.ofBits .f32 0x7F800000#32) = 1 := congrFun h y
  have htop : Ideal.ofBits .f32 0x7F800000#32 = ⊤ := by simp [Ideal.ofBits, Ideal.ieee]
  rw [htop, Ideal.cmp_olt_eq_one, max_lt_iff] at e
  refine ⟨(X y : EReal).toReal, (EReal.coe_toReal e.1.ne ?_).symm⟩
  intro hx
  have := e.2
  rw [hx] at this
  simp at this

theorem exists_R2 {a b : ℕ} {X : (⟨2, ![a, b]⟩ : Shape).Idx → EReal} (h : ∀ y, ∃ r : ℝ, X y = (r : EReal)) : ∃ f, R2 X f :=
  ⟨fun x y => if e : x < a ∧ y < b then (X (ix2 ⟨x, e.1⟩ ⟨y, e.2⟩)).toReal else 0, R2.of fun x y => by
    obtain ⟨r, hr⟩ := h (ix2 x y)
    rw [dif_pos ⟨x.isLt, y.isLt⟩]
    exact hr.trans (congrArg _ ((congrArg EReal.toReal hr).trans (EReal.toReal_coe r)).symm)⟩

theorem exists_R3 {a b c : ℕ} {X : (⟨3, ![a, b, c]⟩ : Shape).Idx → EReal} (h : ∀ y, ∃ r : ℝ, X y = (r : EReal)) : ∃ f, R3 X f :=
  ⟨fun x y z => if e : x < a ∧ y < b ∧ z < c then (X (ix3 ⟨x, e.1⟩ ⟨y, e.2.1⟩ ⟨z, e.2.2⟩)).toReal else 0, R3.of fun x y z => by
    obtain ⟨r, hr⟩ := h (ix3 x y z)
    rw [dif_pos ⟨x.isLt, y.isLt, z.isLt⟩]
    exact hr.trans (congrArg _ ((congrArg EReal.toReal hr).trans (EReal.toReal_coe r)).symm)⟩

theorem exists_R4 {a b c d : ℕ} {X : (⟨4, ![a, b, c, d]⟩ : Shape).Idx → EReal} (h : ∀ y, ∃ r : ℝ, X y = (r : EReal)) : ∃ f, R4 X f :=
  ⟨fun x y z w => if e : x < a ∧ y < b ∧ z < c ∧ w < d then (X (ix4 ⟨x, e.1⟩ ⟨y, e.2.1⟩ ⟨z, e.2.2.1⟩ ⟨w, e.2.2.2⟩)).toReal else 0,
    R4.of fun x y z w => by
    obtain ⟨r, hr⟩ := h (ix4 x y z w)
    rw [dif_pos ⟨x.isLt, y.isLt, z.isLt, w.isLt⟩]
    exact hr.trans (congrArg _ ((congrArg EReal.toReal hr).trans (EReal.toReal_coe r)).symm)⟩

/-- Every array holds extended real numbers. -/
theorem exists_E3 {a b c : ℕ} (X : (⟨3, ![a, b, c]⟩ : Shape).Idx → EReal) : ∃ f, E3 X f :=
  ⟨fun x y z => if e : x < a ∧ y < b ∧ z < c then X (ix3 ⟨x, e.1⟩ ⟨y, e.2.1⟩ ⟨z, e.2.2⟩) else 0, E3.of fun x y z => by
    rw [dif_pos ⟨x.isLt, y.isLt, z.isLt⟩]⟩

theorem exists_E4 {a b c d : ℕ} (X : (⟨4, ![a, b, c, d]⟩ : Shape).Idx → EReal) : ∃ f, E4 X f :=
  ⟨fun x y z w => if e : x < a ∧ y < b ∧ z < c ∧ w < d then X (ix4 ⟨x, e.1⟩ ⟨y, e.2.1⟩ ⟨z, e.2.2.1⟩ ⟨w, e.2.2.2⟩) else 0,
    E4.of fun x y z w => by
    rw [dif_pos ⟨x.isLt, y.isLt, z.isLt, w.isLt⟩]⟩

variable (m : (ℓ : Loc nD τ sig) → Buf (Elt Ideal) ℓ)

/-- The arguments hold numbers, and those of them that the precondition names hold real numbers. -/
theorem exists_args (h : Cert.Pre_KernelIdeal_finite (hPre_finite := preFacts) m) (c : Dev nD) :
    ∃ A : Args, A.Holds (argOf m c main_arg0) (argOf m c main_arg2) (argOf m c main_arg4) (argOf m c main_arg1) (argOf m c main_arg3)
      (argOf m c main_arg5) (argOf m c main_arg6) (argOf m c main_arg7) := by
  obtain ⟨h0, h1, h2, h3, h6, h7⟩ := h c
  dsimp only [Cert.Pre_finite.fn] at h0 h1 h2 h3 h6 h7
  obtain ⟨f0, e0⟩ := exists_R4 (real_of_lt _ _ h0)
  obtain ⟨f1, e1⟩ := exists_R3 (real_of_lt _ _ h1)
  obtain ⟨f2, e2⟩ := exists_R4 (real_of_lt _ _ h2)
  obtain ⟨f3, e3⟩ := exists_R3 (real_of_lt _ _ h3)
  obtain ⟨f4, e4⟩ := exists_E4 (argOf m c main_arg4)
  obtain ⟨f5, e5⟩ := exists_E3 (argOf m c main_arg5)
  obtain ⟨f6, e6⟩ := exists_R2 (real_of_lt _ _ h6)
  obtain ⟨f7, e7⟩ := exists_R2 (real_of_lt _ _ h7)
  exact ⟨⟨f0, f1, f2, f3, f4, f5, f6, f7⟩, ⟨e0, e2, e4, e1, e3, e5, e6, e7⟩⟩

/-- The kernel's result array is the reference's. -/
theorem out_eq (A : Dev nD → Args) (c : Dev nD) {X0 X2 : Vec Ideal S3x4096x16x160 .f32} {X4 : Vec Ideal S3x4096x8x160 .f32}
    {X1 X3 : Vec Ideal S3x4096x16 .f32} {X5 : Vec Ideal S3x4096x8 .f32} {X6 : Vec Ideal S16x12 .f32} {X7 : Vec Ideal S12x8 .f32}
    (h : (A c).Holds X0 X2 X4 X1 X3 X5 X6 X7) :
    GOut (fun c t => (A c).blk t) c = Cert.ReferenceIdeal.Val.refOut X0 X2 X4 X1 X3 X5 X6 X7 := by
  obtain ⟨M, hM⟩ := Cert.ReferenceIdeal.Val.refOut_R h
  funext y
  refine Eq.trans ?_ (hM y).symm
  have h0 : (y 0 : ℕ) < 3 := (y 0).isLt
  have h1 : (y 1 : ℕ) < 4096 := (y 1).isLt
  unfold GOut
  rw [Args.O_eq (A c) M _ _ _ (Nat.mod_lt _ (by norm_num))]
  have e0 : (32 * (y 0 : ℕ) + (y 1 : ℕ) / 128) % 96 / 32 = (y 0 : ℕ) := by omega
  have e1 : 128 * ((32 * (y 0 : ℕ) + (y 1 : ℕ) / 128) % 96 % 32) + (y 1 : ℕ) % 128 = (y 1 : ℕ) := by omega
  show (A c).out M ((32 * (y 0 : ℕ) + (y 1 : ℕ) / 128) % 96 / 32) (128 * ((32 * (y 0 : ℕ) + (y 1 : ℕ) / 128) % 96 % 32) + (y 1 : ℕ) % 128) (y 2) = _
  rw [e0, e1]

end Cert.KernelIdeal.Val
-- ==== Proof.lean ====
/- The claims about talking-heads attention on fp8 codes: the kernel, its idealization and the reference run and leave
   their arguments as they were, the idealization is the kernel over the extended reals, and the
   idealization and the reference end with the same result array where the queries, the keys, their scales and the mixing
   matrices are finite. -/
module

public import proofs.«01_k».proof.Defs
public import proofs.«01_k».proof.Proof.KernelFrame
public import proofs.«01_k».proof.Proof.KernelIdealFrame
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Finite
public import Idealize.ShloMosaic.Lib.Bf16Pair

@[expose] public section

noncomputable section

namespace Cert.Proof

open Idealize.ShloMosaic Idealize.ShloMosaic.TcCoe Idealize.SL Idealize.SL.Sem

theorem preserves : Cert.preserves_Kernel_KernelIdeal :=
  ⟨IdealRules.truncf_extf.statement _ .f32 .bf16, IdealRules.bf16_pack.statement _,
    IdealRules.bf16_pair.packStatement _, IdealRules.bf16_pair.statement _ _, IdealRules.bf16_pair.statement _ _,
    IdealRules.truncf_extf.statement _ .f32 .bf16, IdealRules.bf16_pack.statement _,
    IdealRules.bf16_pair.packStatement _, IdealRules.bf16_pair.statement _ _, IdealRules.bf16_pair.statement _ _⟩

/-- Under the precondition the kernel and the reference end with one result array. -/
theorem algebraic : Cert.algebraic_KernelIdeal_ReferenceIdeal_pre_finite (hPre_finite := Cert.KernelIdeal.Val.preFacts) := by
  intro m g m' g' hpre hag
  choose A hA using Cert.KernelIdeal.Val.exists_args m hpre
  have hB := Cert.KernelIdeal.Val.allReads m A hA
  have hk := Cert.KernelIdeal.Val.run_main m g _ hB
  refine ⟨fun c => Cert.KernelIdeal.Val.GOut (fun c t => (A c).blk t) c, ?_, ?_⟩
  · refine (θ_run Cert.KernelIdeal.defs _ _).mono (fun _ h c => ⟨((h.1 c).1 8).trans (Cert.KernelIdeal.Val.final m _ c), h.2 c⟩)
      (θ_run_and hk (Cert.KernelIdeal.Gen.frame_of m g _ (Cert.KernelIdeal.Val.A_eq m _) hk))
  · refine (θ_run Cert.ReferenceIdeal.defs _ _).mono (fun _ h c => ⟨?_, h.2 c⟩)
      (θ_run_and (Cert.ReferenceIdeal.Gen.run_main (F := Ideal) m' g') (Cert.ReferenceIdeal.Gen.unchanged (F := Ideal) m' g'))
    obtain ⟨e0, e1, e2, e3, e4, e5, e6, e7⟩ := hag c
    refine ((h.1 c).2 Cert.ReferenceIdeal.main_v36 (Pipeline.mem_restRefs_of Cert.ReferenceIdeal.main_v36 (by decide) (by decide))).trans ?_
    refine (Cert.ReferenceIdeal.Val.tail m' c).trans ?_
    refine Eq.trans ?_ (Cert.KernelIdeal.Val.out_eq A c (hA c)).symm
    simp only [Cert.ReferenceIdeal.Val.argOf, Cert.KernelIdeal.Val.argOf]
    rw [e0, e1, e2, e3, e4, e5, e6, e7]

theorem claim : Cert.Claim :=
  ⟨Cert.Kernel.Gen.facts, Cert.KernelIdeal.Gen.facts, Cert.ReferenceIdeal.Gen.facts, Cert.KernelIdeal.Val.preFacts,
    fun m ρ _ => Cert.Kernel.Own.frame m ρ, fun m ρ _ => Cert.KernelIdeal.Own.frame m ρ, fun m ρ _ => Cert.KernelIdeal.Own.frame m ρ,
    fun m ρ _ => Cert.ReferenceIdeal.Gen.frame m ρ, fun m ρ _ => Cert.ReferenceIdeal.Gen.frame m ρ, preserves, algebraic⟩

end Cert.Proof

end
